-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x2560 : Shape := ⟨2, ![12, 2560]⟩
abbrev S2560 : Shape := ⟨1, ![2560]⟩
abbrev S1280x6912 : Shape := ⟨2, ![1280, 6912]⟩
abbrev S160x6912 : Shape := ⟨2, ![160, 6912]⟩
abbrev S1 : Shape := ⟨1, ![1]⟩
abbrev S3456x2560 : Shape := ⟨2, ![3456, 2560]⟩
abbrev S432x2560 : Shape := ⟨2, ![432, 2560]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S12 : Shape := ⟨1, ![12]⟩
abbrev S12x1 : Shape := ⟨2, ![12, 1]⟩
abbrev S1x2560 : Shape := ⟨2, ![1, 2560]⟩
abbrev S12x10x128x2 : Shape := ⟨4, ![12, 10, 128, 2]⟩
abbrev S12x10x2x128 : Shape := ⟨4, ![12, 10, 2, 128]⟩
abbrev S3 : Shape := ⟨1, ![3]⟩
abbrev S1280x768 : Shape := ⟨2, ![1280, 768]⟩
abbrev S160x768 : Shape := ⟨2, ![160, 768]⟩
abbrev S384x2560 : Shape := ⟨2, ![384, 2560]⟩
abbrev S48x2560 : Shape := ⟨2, ![48, 2560]⟩
abbrev S12x768 : Shape := ⟨2, ![12, 768]⟩
abbrev S16x128 : Shape := ⟨2, ![16, 128]⟩
abbrev S32x128 : Shape := ⟨2, ![32, 128]⟩
abbrev S8x128 : Shape := ⟨2, ![8, 128]⟩
abbrev S1x128 : Shape := ⟨2, ![1, 128]⟩
abbrev S256x128 : Shape := ⟨2, ![256, 128]⟩
abbrev S12x256 : Shape := ⟨2, ![12, 256]⟩

abbrev nBuf : Space → Nat
  | .hbm => 87
  | .vmem => 21
  | .smem => 1
  | _ => 0

abbrev bufTy : (tb : Table) → Fin (tcTables nBuf tb) → BufTy
  | .hbm, ⟨0, _⟩ => ⟨S12x2560, .bf16⟩
  | .hbm, ⟨1, _⟩ => ⟨S2560, .f32⟩
  | .hbm, ⟨2, _⟩ => ⟨S1280x6912, .i8⟩
  | .hbm, ⟨3, _⟩ => ⟨S160x6912, .fp8e4m3⟩
  | .hbm, ⟨4, _⟩ => ⟨S1, .f32⟩
  | .hbm, ⟨5, _⟩ => ⟨S1280x6912, .i8⟩
  | .hbm, ⟨6, _⟩ => ⟨S160x6912, .fp8e4m3⟩
  | .hbm, ⟨7, _⟩ => ⟨S1, .f32⟩
  | .hbm, ⟨8, _⟩ => ⟨S3456x2560, .i8⟩
  | .hbm, ⟨9, _⟩ => ⟨S432x2560, .fp8e4m3⟩
  | .hbm, ⟨10, _⟩ => ⟨S1, .f32⟩
  | .hbm, ⟨11, _⟩ => ⟨S256, .i32⟩
  | .hbm, ⟨12, _⟩ => ⟨S256x1, .i32⟩
  | .hbm, ⟨13, _⟩ => ⟨S256, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i1⟩
  | .hbm, ⟨25, _⟩ => ⟨S_, .i32⟩
  | .hbm, ⟨26, _⟩ => ⟨S256, .i32⟩
  | .hbm, ⟨27, _⟩ => ⟨S256, .i1⟩
  | .hbm, ⟨28, _⟩ => ⟨S_, .i32⟩
  | .hbm, ⟨29, _⟩ => ⟨S_, .i1⟩
  | .hbm, ⟨30, _⟩ => ⟨S256, .i1⟩
  | .hbm, ⟨31, _⟩ => ⟨S256, .i1⟩
  | .hbm, ⟨32, _⟩ => ⟨S256, .i1⟩
  | .hbm, ⟨33, _⟩ => ⟨S256, .i32⟩
  | .hbm, ⟨34, _⟩ => ⟨S256, .i32⟩
  | .hbm, ⟨35, _⟩ => ⟨S256, .i32⟩
  | .hbm, ⟨36, _⟩ => ⟨S_, .i32⟩
  | .hbm, ⟨37, _⟩ => ⟨S256, .i32⟩
  | .hbm, ⟨38, _⟩ => ⟨S256, .i32⟩
  | .hbm, ⟨39, _⟩ => ⟨S256, .i32⟩
  | .hbm, ⟨40, _⟩ => ⟨S_, .i32⟩
  | .hbm, ⟨41, _⟩ => ⟨S_, .i32⟩
  | .hbm, ⟨42, _⟩ => ⟨S256, .i32⟩
  | .hbm, ⟨43, _⟩ => ⟨S256, .i32⟩
  | .hbm, ⟨44, _⟩ => ⟨S256, .i32⟩
  | .hbm, ⟨45, _⟩ => ⟨S_, .i32⟩
  | .hbm, ⟨46, _⟩ => ⟨S256, .i32⟩
  | .hbm, ⟨47, _⟩ => ⟨S256, .i1⟩
  | .hbm, ⟨48, _⟩ => ⟨S256, .i32⟩
  | .hbm, ⟨49, _⟩ => ⟨S256, .i32⟩
  | .hbm, ⟨50, _⟩ => ⟨S_, .i32⟩
  | .hbm, ⟨51, _⟩ => ⟨S256, .i32⟩
  | .hbm, ⟨52, _⟩ => ⟨S256, .i1⟩
  | .hbm, ⟨53, _⟩ => ⟨S256, .i1⟩
  | .hbm, ⟨54, _⟩ => ⟨S_, .i32⟩
  | .hbm, ⟨55, _⟩ => ⟨S256, .i32⟩
  | .hbm, ⟨56, _⟩ => ⟨S256, .i32⟩
  | .hbm, ⟨57, _⟩ => ⟨S256, .i32⟩
  | .hbm, ⟨58, _⟩ => ⟨S256, .i32⟩
  | .hbm, ⟨59, _⟩ => ⟨S1x256, .i32⟩
  | .hbm, ⟨60, _⟩ => ⟨S256x256, .i32⟩
  | .hbm, ⟨61, _⟩ => ⟨S256x256, .i32⟩
  | .hbm, ⟨62, _⟩ => ⟨S256x256, .i1⟩
  | .hbm, ⟨63, _⟩ => ⟨S256x256, .bf16⟩
  | .hbm, ⟨64, _⟩ => ⟨S12x2560, .f32⟩
  | .hbm, ⟨65, _⟩ => ⟨S12x2560, .f32⟩
  | .hbm, ⟨66, _⟩ => ⟨S_, .f32⟩
  | .hbm, ⟨67, _⟩ => ⟨S12, .f32⟩
  | .hbm, ⟨68, _⟩ => ⟨S12x1, .f32⟩
  | .hbm, ⟨69, _⟩ => ⟨S_, .f32⟩
  | .hbm, ⟨70, _⟩ => ⟨S12x1, .f32⟩
  | .hbm, ⟨71, _⟩ => ⟨S12x1, .f32⟩
  | .hbm, ⟨72, _⟩ => ⟨S_, .f32⟩
  | .hbm, ⟨73, _⟩ => ⟨S12x1, .f32⟩
  | .hbm, ⟨74, _⟩ => ⟨S12x1, .f32⟩
  | .hbm, ⟨75, _⟩ => ⟨S12x1, .f32⟩
  | .hbm, ⟨76, _⟩ => ⟨S12x2560, .f32⟩
  | .hbm, ⟨77, _⟩ => ⟨S12x2560, .f32⟩
  | .hbm, ⟨78, _⟩ => ⟨S1x2560, .f32⟩
  | .hbm, ⟨79, _⟩ => ⟨S12x2560, .f32⟩
  | .hbm, ⟨80, _⟩ => ⟨S12x2560, .f32⟩
  | .hbm, ⟨81, _⟩ => ⟨S12x2560, .bf16⟩
  | .hbm, ⟨82, _⟩ => ⟨S12x10x128x2, .bf16⟩
  | .hbm, ⟨83, _⟩ => ⟨S12x10x2x128, .bf16⟩
  | .hbm, ⟨84, _⟩ => ⟨S12x2560, .bf16⟩
  | .hbm, ⟨85, _⟩ => ⟨S3, .f32⟩
  | .hbm, ⟨86, _⟩ => ⟨S12x2560, .bf16⟩
  | .local _ .vmem, ⟨0, _⟩ => ⟨S12x2560, .bf16⟩
  | .local _ .vmem, ⟨1, _⟩ => ⟨S12x2560, .bf16⟩
  | .local _ .vmem, ⟨2, _⟩ => ⟨S256x256, .bf16⟩
  | .local _ .vmem, ⟨3, _⟩ => ⟨S1280x768, .i8⟩
  | .local _ .vmem, ⟨4, _⟩ => ⟨S1280x768, .i8⟩
  | .local _ .vmem, ⟨5, _⟩ => ⟨S160x768, .fp8e4m3⟩
  | .local _ .vmem, ⟨6, _⟩ => ⟨S160x768, .fp8e4m3⟩
  | .local _ .vmem, ⟨7, _⟩ => ⟨S1280x768, .i8⟩
  | .local _ .vmem, ⟨8, _⟩ => ⟨S1280x768, .i8⟩
  | .local _ .vmem, ⟨9, _⟩ => ⟨S160x768, .fp8e4m3⟩
  | .local _ .vmem, ⟨10, _⟩ => ⟨S160x768, .fp8e4m3⟩
  | .local _ .vmem, ⟨11, _⟩ => ⟨S384x2560, .i8⟩
  | .local _ .vmem, ⟨12, _⟩ => ⟨S384x2560, .i8⟩
  | .local _ .vmem, ⟨13, _⟩ => ⟨S48x2560, .fp8e4m3⟩
  | .local _ .vmem, ⟨14, _⟩ => ⟨S48x2560, .fp8e4m3⟩
  | .local _ .vmem, ⟨15, _⟩ => ⟨S12x2560, .bf16⟩
  | .local _ .vmem, ⟨16, _⟩ => ⟨S160x768, .bf16⟩
  | .local _ .vmem, ⟨17, _⟩ => ⟨S160x768, .bf16⟩
  | .local _ .vmem, ⟨18, _⟩ => ⟨S48x2560, .bf16⟩
  | .local _ .vmem, ⟨19, _⟩ => ⟨S12x768, .bf16⟩
  | .local _ .vmem, ⟨20, _⟩ => ⟨S12x2560, .f32⟩
  | .local _ .smem, ⟨0, _⟩ => ⟨S3, .f32⟩
  | _, _ => ⟨S12x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_c_1 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_c : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_0 : Ref sig .tc := ⟨.hbm, 54, rfl⟩
abbrev main_call1_v12 : Ref sig .tc := ⟨.hbm, 55, rfl⟩
abbrev main_call1_v13 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst : Ref sig .tc := ⟨.hbm, 66, rfl⟩
abbrev main_v16 : Ref sig .tc := ⟨.hbm, 67, rfl⟩
abbrev main_v17 : Ref sig .tc := ⟨.hbm, 68, rfl⟩
abbrev main_cst_2 : Ref sig .tc := ⟨.hbm, 69, rfl⟩
abbrev main_v18 : Ref sig .tc := ⟨.hbm, 70, rfl⟩
abbrev main_v19 : Ref sig .tc := ⟨.hbm, 71, rfl⟩
abbrev main_cst_3 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_v23 : Ref sig .tc := ⟨.hbm, 76, rfl⟩
abbrev main_v24 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32_12392 : BitVec 32 := 8#32
  let v32440 : BitVec 1 := Scalar.cmpi .eq arg0 c8_i32_12392
  let v32441 : BitVec 32 := Scalar.extui v32440
  let c0_i32_12393 : BitVec 32 := 0#32
  let v32442 : BitVec 1 := Scalar.cmpi .ne v32441 c0_i32_12393
  v32442

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S12x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1280x768 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S160x768 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1280x768 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S160x768 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S384x2560 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S48x2560 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S12x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S12x2560 : Shape := ⟨2, ![12, 2560]⟩
abbrev S2560 : Shape := ⟨1, ![2560]⟩
abbrev S1280x6912 : Shape := ⟨2, ![1280, 6912]⟩
abbrev S160x6912 : Shape := ⟨2, ![160, 6912]⟩
abbrev S1 : Shape := ⟨1, ![1]⟩
abbrev S3456x2560 : Shape := ⟨2, ![3456, 2560]⟩
abbrev S432x2560 : Shape := ⟨2, ![432, 2560]⟩
abbrev S_ : Shape := ⟨0, ![]⟩
abbrev S12 : Shape := ⟨1, ![12]⟩
abbrev S12x1 : Shape := ⟨2, ![12, 1]⟩
abbrev S1x2560 : Shape := ⟨2, ![1, 2560]⟩
abbrev S160x1x6912 : Shape := ⟨3, ![160, 1, 6912]⟩
abbrev S160x8x6912 : Shape := ⟨3, ![160, 8, 6912]⟩
abbrev S12x1280x2 : Shape := ⟨3, ![12, 1280, 2]⟩
abbrev S12x1280x1 : Shape := ⟨3, ![12, 1280, 1]⟩
abbrev S12x1280 : Shape := ⟨2, ![12, 1280]⟩
abbrev S12x6912 : Shape := ⟨2, ![12, 6912]⟩
abbrev S432x1x2560 : Shape := ⟨3, ![432, 1, 2560]⟩
abbrev S432x8x2560 : Shape := ⟨3, ![432, 8, 2560]⟩
abbrev S12x3456x2 : Shape := ⟨3, ![12, 3456, 2]⟩
abbrev S12x3456x1 : Shape := ⟨3, ![12, 3456, 1]⟩
abbrev S12x3456 : Shape := ⟨2, ![12, 3456]⟩

abbrev nBuf : Space → Nat
  | .hbm => 30
  | .vmem => 12
  | .smem => 0
  | _ => 0

abbrev bufTy : (tb : Table) → Fin (tcTables nBuf tb) → BufTy
  | .hbm, ⟨0, _⟩ => ⟨S12x2560, .bf16⟩
  | .hbm, ⟨1, _⟩ => ⟨S2560, .f32⟩
  | .hbm, ⟨2, _⟩ => ⟨S1280x6912, .i8⟩
  | .hbm, ⟨3, _⟩ => ⟨S160x6912, .fp8e4m3⟩
  | .hbm, ⟨4, _⟩ => ⟨S1, .f32⟩
  | .hbm, ⟨5, _⟩ => ⟨S1280x6912, .i8⟩
  | .hbm, ⟨6, _⟩ => ⟨S160x6912, .fp8e4m3⟩
  | .hbm, ⟨7, _⟩ => ⟨S1, .f32⟩
  | .hbm, ⟨8, _⟩ => ⟨S3456x2560, .i8⟩
  | .hbm, ⟨9, _⟩ => ⟨S432x2560, .fp8e4m3⟩
  | .hbm, ⟨10, _⟩ => ⟨S1, .f32⟩
  | .hbm, ⟨11, _⟩ => ⟨S12x2560, .f32⟩
  | .hbm, ⟨12, _⟩ => ⟨S12x2560, .f32⟩
  | .hbm, ⟨13, _⟩ => ⟨S_, .f32⟩
  | .hbm, ⟨14, _⟩ => ⟨S12, .f32⟩
  | .hbm, ⟨15, _⟩ => ⟨S12x1, .f32⟩
  | .hbm, ⟨16, _⟩ => ⟨S_, .f32⟩
  | .hbm, ⟨17, _⟩ => ⟨S12x1, .f32⟩
  | .hbm, ⟨18, _⟩ => ⟨S12x1, .f32⟩
  | .hbm, ⟨19, _⟩ => ⟨S_, .f32⟩
  | .hbm, ⟨20, _⟩ => ⟨S12x1, .f32⟩
  | .hbm, ⟨21, _⟩ => ⟨S12x1, .f32⟩
  | .hbm, ⟨22, _⟩ => ⟨S12x1, .f32⟩
  | .hbm, ⟨23, _⟩ => ⟨S12x2560, .f32⟩
  | .hbm, ⟨24, _⟩ => ⟨S12x2560, .f32⟩
  | .hbm, ⟨25, _⟩ => ⟨S1x2560, .f32⟩
  | .hbm, ⟨26, _⟩ => ⟨S12x2560, .f32⟩
  | .hbm, ⟨27, _⟩ => ⟨S12x2560, .f32⟩
  | .hbm, ⟨28, _⟩ => ⟨S12x2560, .bf16⟩
  | .hbm, ⟨29, _⟩ => ⟨S12x2560, .bf16⟩
  | .local _ .vmem, ⟨0, _⟩ => ⟨S12x2560, .bf16⟩
  | .local _ .vmem, ⟨1, _⟩ => ⟨S12x2560, .bf16⟩
  | .local _ .vmem, ⟨2, _⟩ => ⟨S1280x6912, .i8⟩
  | .local _ .vmem, ⟨3, _⟩ => ⟨S160x6912, .fp8e4m3⟩
  | .local _ .vmem, ⟨4, _⟩ => ⟨S1, .f32⟩
  | .local _ .vmem, ⟨5, _⟩ => ⟨S1280x6912, .i8⟩
  | .local _ .vmem, ⟨6, _⟩ => ⟨S160x6912, .fp8e4m3⟩
  | .local _ .vmem, ⟨7, _⟩ => ⟨S1, .f32⟩
  | .local _ .vmem, ⟨8, _⟩ => ⟨S3456x2560, .i8⟩
  | .local _ .vmem, ⟨9, _⟩ => ⟨S432x2560, .fp8e4m3⟩
  | .local _ .vmem, ⟨10, _⟩ => ⟨S1, .f32⟩
  | .local _ .vmem, ⟨11, _⟩ => ⟨S12x2560, .bf16⟩
  | _, _ => ⟨S12x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S12x2560 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x6912 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x6912 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x6912 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S160x6912 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3456x2560 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S432x2560 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S12x2560 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Norm.lean ====
/-
  The normalized rows that both programs compute before their kernels: each entry over the root of its row's mean square plus
  the constant, times the layer's factor.
-/
module

public import proofs.«01_k».proof.Proof.Gen.ReferenceIdeal.Value
public import Idealize.ShloMosaic.Lib.Claim

@[expose] public section

noncomputable section

namespace Cert.Mlp

open Idealize.ShloMosaic Idealize.ShloMosaic.TcCoe Cert.ReferenceIdeal Cert.ReferenceIdeal.Gen

variable {F : FTy → Type} [FloatOps F]

/-- The reciprocal roots of the rows' mean squares. -/
def invRoot (x : FVec F S12x2560 .f32) : FVec F S12x1 .f32 :=
  Host.rsqrt (addf (Host.divf (broadcastInDim S12x1 ![0] bcast_S12_S12x1_0
      (Host.reduceAdd (mulf x x) (constant S_ .f32 0x00000000#32) reducesTo_S12x2560_S12_d1 h_S_))
    (broadcastInDim S12x1 ![] bcast_S_S12x1 (constant S_ .f32 0x45200000#32))) (broadcastInDim S12x1 ![] bcast_S_S12x1 (constant S_ .f32 0x3727C5AC#32)))

/-- The rows normalized. -/
def normed (h : FVec F S12x2560 .bf16) (ln : FVec F S2560 .f32) : FVec F S12x2560 .bf16 :=
  truncf .bf16 (mulf (mulf (extf .f32 h bitsLt_bf16_f32) (broadcastInDim S12x2560 ![0, 1] bcast_S12x1_S12x2560_0_1 (invRoot (extf .f32 h bitsLt_bf16_f32))))
    (broadcastInDim S12x2560 ![0, 1] bcast_S1x2560_S12x2560_0_1 (broadcastInDim S1x2560 ![1] bcast_S2560_S1x2560_1 ln))) bitsLt_bf16_f32

theorem reference_normed (m : (ℓ : Loc nD τ sig) → Buf (Elt F) ℓ) (c : Dev nD) :
    V m c main_v14 = normed (m ((c : Thread nD τ).loc main_arg0)) (m ((c : Thread nD τ).loc main_arg1)) := by
  entry_read
  rfl

end Cert.Mlp

end
-- ==== Proof.Nibble.lean ====
/-
  The 4-bit weight codes: what value a code has, and the two ways the programs find it. The kernel makes, from the byte
  that holds two codes, an fp8 pattern whose value is 1/64 of the code's value (`fp8_lo`, `fp8_hi`); it does this on 32-bit
  words that hold four bytes each (`lo_word`, `hi_word`). The reference selects the value from the code's bits (`sel_lo`, `sel_hi`).
-/
module

public import Idealize.ShloMosaic.Lib.Pointwise
public import Idealize.ShloMosaic.Lib.BitcastFour

@[expose] public section

noncomputable section

namespace Cert.Mlp

open Idealize.ShloMosaic

/-- The byte the kernel makes for the low code of a byte. -/
def loByte (b : BitVec 8) : BitVec 8 := ((b <<< 4) &&& 0x80#8) ||| ((b <<< 2) &&& 0x1C#8)

/-- The byte the kernel makes for the high code of a byte. -/
def hiByte (b : BitVec 8) : BitVec 8 := (b &&& 0x80#8) ||| ((b >>> 2) &&& 0x1C#8)

/-- The low and high code of a byte. -/
def loCode (b : BitVec 8) : BitVec 4 := b.setWidth 4
def hiCode (b : BitVec 8) : BitVec 4 := (b >>> 4).setWidth 4

/-- The fp8 pattern of a code: sign bit, then the code's exponent and mantissa at bits 2 to 4. -/
def enc (n : BitVec 4) : BitVec 8 := ((n.setWidth 8 <<< 4) &&& 0x80#8) ||| ((n.setWidth 8 <<< 2) &&& 0x1C#8)

theorem loByte_eq : ∀ b : BitVec 8, loByte b = enc (loCode b) := by decide +kernel
theorem hiByte_eq : ∀ b : BitVec 8, hiByte b = enc (hiCode b) := by decide +kernel

/-- The value of a code (e2m1). -/
def e2m1 (n : BitVec 4) : EReal :=
  match n.toNat with
  | 0 => ((0 : ℝ) : EReal) | 1 => ((1/2 : ℝ) : EReal) | 2 => ((1 : ℝ) : EReal) | 3 => ((3/2 : ℝ) : EReal)
  | 4 => ((2 : ℝ) : EReal) | 5 => ((3 : ℝ) : EReal) | 6 => ((4 : ℝ) : EReal) | 7 => ((6 : ℝ) : EReal)
  | 8 => ((0 : ℝ) : EReal) | 9 => ((-(1/2) : ℝ) : EReal) | 10 => ((-1 : ℝ) : EReal) | 11 => ((-(3/2) : ℝ) : EReal)
  | 12 => ((-2 : ℝ) : EReal) | 13 => ((-3 : ℝ) : EReal) | 14 => ((-4 : ℝ) : EReal) | _ => ((-6 : ℝ) : EReal)

/-- A statement about codes holds when it holds for the sixteen. -/
theorem forall_code (P : BitVec 4 → Prop) (h : ∀ k : Fin 16, P (BitVec.ofFin k)) (n : BitVec 4) : P n := h n.toFin

/-- The fp8 pattern of a code is worth 1/64 of the code. -/
theorem fp8_enc (n : BitVec 4) : Ideal.ofBits .fp8e4m3 (enc n) = e2m1 n * ((1/64 : ℝ) : EReal) := by
  revert n
  apply forall_code
  intro k
  fin_cases k <;>
    · simp [Ideal.ofBits, Ideal.e4m3fn, enc, e2m1, ← EReal.coe_mul, -EReal.coe_mul]
      try first | (rw [← EReal.coe_mul]; norm_num; done) | norm_num

/-- The scale table's factor undoes the 1/64. -/
theorem sixtyfour : ((1/64 : ℝ) : EReal) * Ideal.ofBits .f32 0x42800000#32 = 1 := by
  have h : Ideal.ofBits .f32 0x42800000#32 = ((64 : ℝ) : EReal) := by
    simp [Ideal.ofBits, Ideal.ieee, -EReal.coe_mul]; norm_num
  rw [h, ← EReal.coe_mul]; norm_num

/-- Byte `k` of a word. -/
def byteAt (w : BitVec 32) (k : Nat) : BitVec 8 := w.extractLsb' (8 * k) 8

/-- The word of four patterns the kernel makes for the low codes, and for the high ones. -/
def loWord (w : BitVec 32) : BitVec 32 := ((w <<< 4) &&& 2155905152#32) ||| ((w <<< 2) &&& 471604252#32)
def hiWord (w : BitVec 32) : BitVec 32 := (w &&& 2155905152#32) ||| ((w >>> 2) &&& 471604252#32)

theorem lo_word (w : BitVec 32) (k : Nat) (hk : k < 4) : byteAt (loWord w) k = loByte (byteAt w k) := by
  interval_cases k <;>
    · apply BitVec.eq_of_getLsbD_eq
      intro i hi
      interval_cases i <;> simp [byteAt, loWord, loByte, BitVec.getLsbD_extractLsb']

theorem hi_word (w : BitVec 32) (k : Nat) (hk : k < 4) : byteAt (hiWord w) k = hiByte (byteAt w k) := by
  interval_cases k <;>
    · apply BitVec.eq_of_getLsbD_eq
      intro i hi
      interval_cases i <;> simp [byteAt, hiWord, hiByte, BitVec.getLsbD_extractLsb']

end Cert.Mlp

end
-- ==== Proof.Tile.lean ====
/-
  One decoded weight tile of the kernel: 128 rows of code bytes by 128 columns become 256 rows of weights, the 128 low
  codes' first and the 128 high codes' after them, each times the scale of its group of 8 byte rows. `tile` is the
  kernel's computation on four loaded pieces of codes and sixteen loaded rows of scales; `tile_lo` and `tile_hi` say
  what it holds.
-/
module

public import proofs.«01_k».proof.Proof.Nibble

@[expose] public section

noncomputable section

namespace Cert.Mlp

open Idealize.ShloMosaic

abbrev T32 : Shape := ⟨2, ![32, 128]⟩
abbrev T16 : Shape := ⟨2, ![16, 128]⟩
abbrev T8 : Shape := ⟨2, ![8, 128]⟩
abbrev T1 : Shape := ⟨2, ![1, 128]⟩
abbrev T256 : Shape := ⟨2, ![256, 128]⟩
abbrev W256 : Shape := ⟨2, ![256, 256]⟩

theorem stack_shapes : Shape.Concatenates [T16, T16, T16, T16, T16, T16, T16, T16, T16, T16, T16, T16, T16, T16, T16, T16] T256 0 := by
  decide
theorem pair_shapes : Shape.Concatenates [T256, T256] W256 1 := by decide

section Defs
variable {F : FTy → Type} [FloatOps F]

/-- Rows 0 to 7 of 16. -/
def top : IVec T16 1 := cmpi .slt (iota .tc T16 32 [0] (by decide)) (broadcast T16 8#32)

/-- Four rows of bytes as one row of words. -/
def words (c : IVec T32 8) : IVec T8 32 := bitcast T8 32 c (by decide)

/-- The fp8 patterns of the low and of the high codes of 32 rows of bytes, as values. -/
def loRows (c : IVec T32 8) : FVec F T32 .bf16 :=
  extf .bf16 (bitcastToFloat .fp8e4m3 (bitcast T32 8
    (ori (andi (shli (words c) (broadcast T8 4#32)) (broadcast T8 2155905152#32))
      (andi (shli (words c) (broadcast T8 2#32)) (broadcast T8 471604252#32))) (by decide))) (by decide)
def hiRows (c : IVec T32 8) : FVec F T32 .bf16 :=
  extf .bf16 (bitcastToFloat .fp8e4m3 (bitcast T32 8
    (ori (andi (words c) (broadcast T8 2155905152#32))
      (andi (shrui (words c) (broadcast T8 2#32)) (broadcast T8 471604252#32))) (by decide))) (by decide)

/-- Sixteen rows of scales: row `a` eight times, then row `b` eight times. -/
def scaleRows (a b : FVec F T1 .bf16) : FVec F T16 .bf16 :=
  select top (broadcastTo T16 (shapeCast T1 a (by decide)) (by decide)) (broadcastTo T16 (shapeCast T1 b (by decide)) (by decide))

def upper (x : FVec F T32 .bf16) (a b : FVec F T1 .bf16) : FVec F T16 .bf16 :=
  mulf (extractStridedSlice T16 ![0, 0] x (by decide)) (scaleRows a b)
def lower (x : FVec F T32 .bf16) (a b : FVec F T1 .bf16) : FVec F T16 .bf16 :=
  mulf (extractStridedSlice T16 ![16, 0] x (by decide)) (scaleRows a b)

/-- The tile of 256 weight rows. -/
def tile (c : Fin 4 → IVec T32 8) (s : Fin 16 → FVec F T1 .bf16) : FVec F T256 .bf16 :=
  concatenate T256 0
    [⟨T16, upper (loRows (c 0)) (s 0) (s 1)⟩, ⟨T16, lower (loRows (c 0)) (s 2) (s 3)⟩,
     ⟨T16, upper (loRows (c 1)) (s 4) (s 5)⟩, ⟨T16, lower (loRows (c 1)) (s 6) (s 7)⟩,
     ⟨T16, upper (loRows (c 2)) (s 8) (s 9)⟩, ⟨T16, lower (loRows (c 2)) (s 10) (s 11)⟩,
     ⟨T16, upper (loRows (c 3)) (s 12) (s 13)⟩, ⟨T16, lower (loRows (c 3)) (s 14) (s 15)⟩,
     ⟨T16, upper (hiRows (c 0)) (s 0) (s 1)⟩, ⟨T16, lower (hiRows (c 0)) (s 2) (s 3)⟩,
     ⟨T16, upper (hiRows (c 1)) (s 4) (s 5)⟩, ⟨T16, lower (hiRows (c 1)) (s 6) (s 7)⟩,
     ⟨T16, upper (hiRows (c 2)) (s 8) (s 9)⟩, ⟨T16, lower (hiRows (c 2)) (s 10) (s 11)⟩,
     ⟨T16, upper (hiRows (c 3)) (s 12) (s 13)⟩, ⟨T16, lower (hiRows (c 3)) (s 14) (s 15)⟩] stack_shapes

/-- Two tiles side by side. -/
def wide (t₀ t₁ : FVec F T256 .bf16) : FVec F W256 .bf16 := concatenate W256 1 [⟨T256, t₀⟩, ⟨T256, t₁⟩] pair_shapes

end Defs

/-! ## What a tile holds -/

/-- Rows 16 at a time: a list of 16-row pieces stacked, read at a row. -/
theorem stack_at {α : Type} {t : Shape} (a : Fin t.rank) (ht : t.rank = 2) (ha : a.val = 0) (j : t.Idx) (q : Fin 16) (l : Fin 128)
    (hl : ∀ b : Fin t.rank, b.val = 1 → (j b).val = l.val) :
    ∀ (ps : List (T16.Idx → α)) (p : Nat) (hp : p < ps.length)
      (hs : ∀ s ∈ (ps.map fun x => (⟨T16, x⟩ : (s : Shape) × (s.Idx → α))).map (·.1), s.FitsOff t a)
      (hc : 16 * p + q.val < (axisSizes t a (ps.map fun x => (⟨T16, x⟩ : (s : Shape) × (s.Idx → α)))).sum),
      concatenateAt t a j (ps.map fun x => (⟨T16, x⟩ : (s : Shape) × (s.Idx → α))) hs (16 * p + q.val) hc = ps[p] (ix2 q l) := by
  intro ps
  have hz : ∀ h : T16.rank = t.rank, T16.size (a.cast h.symm) = 16 := by
    intro h
    have : a.cast h.symm = (0 : Fin 2) := Fin.ext ha
    rw [this]; rfl
  have rd : ∀ (x : T16.Idx → α) (c : Nat) (hcq : c = q.val) (f : (b : Fin T16.rank) → Fin (T16.size b))
      (_ : ∀ b, (f b).val = if b.val = a.val then c else l.val), x f = x (ix2 q l) := by
    intro x c hcq f hf
    congr 1
    funext b
    apply Fin.ext
    rw [hf]
    match b with
    | ⟨0, _⟩ => simp only [ha, if_true]; exact hcq
    | ⟨1, _⟩ => simp only [ha]; rfl
  induction ps with
  | nil => intro p hp; exact absurd hp (Nat.not_lt_zero _)
  | cons x xs ih =>
    intro p hp hs hc
    cases xs with
    | nil =>
      have hp0 : p = 0 := by simpa using hp
      subst hp0
      show concatenateAt t a j [⟨T16, x⟩] _ _ _ = x _
      rw [concatenateAt_singleton]
      rw [Shape.Idx.norm_def]
      refine rd x (16 * 0 + q.val) (by omega) _ (fun b => ?_)
      dsimp only
      by_cases hb : b.val = a.val
      · rw [if_pos hb, if_pos hb]
      · rw [if_neg hb, if_neg hb]
        refine hl _ ?_
        have : b.val < 2 := b.isLt
        show b.val = 1
        omega
    | cons y ys =>
      show concatenateAt t a j (⟨T16, x⟩ :: ⟨T16, y⟩ :: (ys.map fun x => (⟨T16, x⟩ : (s : Shape) × (s.Idx → α)))) _ _ _ = _
      rw [concatenateAt_cons]
      have h16 := hz (hs T16 (List.mem_cons_self)).rank_eq
      cases p with
      | zero =>
        rw [dif_pos (by have := q.isLt; omega)]
        rw [Shape.Idx.norm_def]
        refine rd x (16 * 0 + q.val) (by omega) _ (fun b => ?_)
        dsimp only
        by_cases hb : b.val = a.val
        · rw [if_pos hb, if_pos hb]
        · rw [if_neg hb, if_neg hb]
          refine hl _ ?_
          have : b.val < 2 := b.isLt
          show b.val = 1
          omega
      | succ p =>
        rw [dif_neg (by omega)]
        have e : 16 * (p + 1) + q.val - T16.size (a.cast (hs T16 (List.mem_cons_self)).rank_eq.symm) = 16 * p + q.val := by omega
        have hc' : 16 * p + q.val < (axisSizes t a ((y :: ys).map fun x => (⟨T16, x⟩ : (s : Shape) × (s.Idx → α)))).sum := by
          have h0 := hc
          rw [List.map_cons, axisSizes_cons t a ⟨T16, x⟩ _ (hs T16 (List.mem_cons_self)), List.sum_cons, h16] at h0
          omega
        have := ih p (by simpa using hp) (fun s h => hs s (List.mem_cons_of_mem _ h)) hc'
        simp only [e]
        exact this

/-- A stack of 16-row pieces read at row `16 p + q`. -/
theorem stack_apply {α : Type} {R : Nat} (ps : List (T16.Idx → α))
    (h : Shape.Concatenates ((ps.map fun x => (⟨T16, x⟩ : (s : Shape) × (s.Idx → α))).map (·.1)) ⟨2, ![R, 128]⟩ 0)
    (p : Nat) (hp : p < ps.length) (q : Fin 16) (l : Fin 128) (r : Fin R) (hr : r.val = 16 * p + q.val) :
    concatenate ⟨2, ![R, 128]⟩ 0 (ps.map fun x => (⟨T16, x⟩ : (s : Shape) × (s.Idx → α))) h (ix2 r l) = ps[p] (ix2 q l) := by
  have hc : 16 * p + q.val
      < (axisSizes ⟨2, ![R, 128]⟩ 0 (ps.map fun x => (⟨T16, x⟩ : (s : Shape) × (s.Idx → α)))).sum := by
    rw [h.2.2, ← hr]; exact r.isLt
  have := stack_at (t := ⟨2, ![R, 128]⟩) (0 : Fin 2) rfl rfl (ix2 r l) q l (fun b hb => by
    have : b = (1 : Fin 2) := Fin.ext hb
    subst this; rfl) ps p hp h.2.1 hc
  rw [concatenate_apply]
  have e : ((ix2 r l : (⟨2, ![R, 128]⟩ : Shape).Idx) 0).val = 16 * p + q.val := hr
  simp only [e]
  exact this

/-- Byte `k` of the word at row `a` is the byte at row `4 a + k`. -/
theorem byteAt_words (c : IVec T32 8) (a : Fin 8) (l : Fin 128) (k : Fin 4) (r : Fin 32) (hr : r.val = 4 * a.val + k.val) :
    byteAt (words c (ix2 a l)) k.val = c (ix2 r l) := by
  apply BitVec.eq_of_getLsbD_eq
  intro i hi
  have hk := k.isLt
  rw [byteAt, BitVec.getLsbD_extractLsb']
  simp only [hi, decide_true, Bool.true_and]
  refine (bitcast_8_32_getLsbD_ix2 c (by decide) a l (8 * k.val + i) (by omega) r (by omega)).trans ?_
  congr 1
  omega

/-- Words read back as bytes: row `r` is byte `r % 4` of the word at row `r / 4`. -/
theorem bytes_apply (w : IVec T8 32) (h : T8.Bitcasts 32 T32 8) (r : Fin 32) (l : Fin 128) (a : Fin 8) (k : Fin 4)
    (hr : r.val = 4 * a.val + k.val) : bitcast T32 8 w h (ix2 r l) = byteAt (w (ix2 a l)) k.val := by
  apply BitVec.eq_of_getLsbD_eq
  intro i hi
  have hk := k.isLt
  rw [byteAt, BitVec.getLsbD_extractLsb', bitcast_getLsbD w h (ix2 r l) i hi (by decide)]
  simp only [hi, decide_true, Bool.true_and]
  have hrow : T32.row (ix2 r l) = r.val := rfl
  have e : (T32.row (ix2 r l) * 8 + i) % 32 = 8 * k.val + i := by rw [hrow]; omega
  rw [e]
  congr 2
  funext b
  match b with
  | ⟨0, _⟩ => exact Fin.ext ((h.srcIdx_row _ _ _ ⟨0, Nat.zero_lt_two⟩ rfl).trans (by
      show (T32.row (ix2 r l) * 8 + i) / 32 = a.val
      rw [hrow]; omega))
  | ⟨1, _⟩ => exact Fin.ext (h.srcIdx_other _ _ _ ⟨1, Nat.one_lt_two⟩ (by show ¬ 1 + 2 = 2; omega))

theorem quarter (r : Fin 32) : ∃ (a : Fin 8) (k : Fin 4), r.val = 4 * a.val + k.val :=
  ⟨⟨r.val / 4, by omega⟩, ⟨r.val % 4, by omega⟩, by simp only; omega⟩

theorem loRows_apply (c : IVec T32 8) (r : Fin 32) (l : Fin 128) :
    (loRows c : FVec Ideal T32 .bf16) (ix2 r l) = e2m1 (loCode (c (ix2 r l))) * ((1/64 : ℝ) : EReal) := by
  obtain ⟨a, k, hr⟩ := quarter r
  rw [← fp8_enc, ← loByte_eq, ← byteAt_words c a l k r hr, ← lo_word _ _ k.isLt]
  show Ideal.ofBits .fp8e4m3 (bitcast T32 8 _ _ (ix2 r l)) = _
  rw [bytes_apply _ _ r l a k hr]
  rfl

theorem hiRows_apply (c : IVec T32 8) (r : Fin 32) (l : Fin 128) :
    (hiRows c : FVec Ideal T32 .bf16) (ix2 r l) = e2m1 (hiCode (c (ix2 r l))) * ((1/64 : ℝ) : EReal) := by
  obtain ⟨a, k, hr⟩ := quarter r
  rw [← fp8_enc, ← hiByte_eq, ← byteAt_words c a l k r hr, ← hi_word _ _ k.isLt]
  show Ideal.ofBits .fp8e4m3 (bitcast T32 8 _ _ (ix2 r l)) = _
  rw [bytes_apply _ _ r l a k hr]
  rfl

theorem top_apply : ∀ (q : Fin 16) (l : Fin 128), top (ix2 q l) = if q.val < 8 then 1#1 else 0#1 := by
  intro q l
  have : ∀ q : Fin 16, IntOp.cmpi .slt (BitVec.ofNat 32 (0 * 16 + q.val)) 8#32 = if q.val < 8 then 1#1 else 0#1 := by decide
  exact this q

theorem scaleRows_apply (a b : FVec Ideal T1 .bf16) (q : Fin 16) (l : Fin 128) :
    scaleRows a b (ix2 q l) = if q.val < 8 then a (ix2 0 l) else b (ix2 0 l) := by
  have h1 : ∀ x : FVec Ideal T1 .bf16, broadcastTo T16 (shapeCast T1 x (by decide)) (by decide) (ix2 q l) = x (ix2 0 l) := by
    intro x
    pointwise
  show Scalar.select (top (ix2 q l)) _ _ = _
  rw [top_apply, h1, h1]
  by_cases h : q.val < 8
  · rw [if_pos h, if_pos h]; rfl
  · rw [if_neg h, if_neg h]; rfl

theorem upper_apply (x : FVec Ideal T32 .bf16) (a b : FVec Ideal T1 .bf16) (q : Fin 16) (l : Fin 128) :
    upper x a b (ix2 q l) = x (ix2 ⟨q.val, by omega⟩ l) * if q.val < 8 then a (ix2 0 l) else b (ix2 0 l) := by
  rw [← scaleRows_apply a b q l]
  pointwise [upper]

theorem lower_apply (x : FVec Ideal T32 .bf16) (a b : FVec Ideal T1 .bf16) (q : Fin 16) (l : Fin 128) :
    lower x a b (ix2 q l) = x (ix2 ⟨16 + q.val, by omega⟩ l) * if q.val < 8 then a (ix2 0 l) else b (ix2 0 l) := by
  rw [← scaleRows_apply a b q l]
  pointwise [lower]

/-- The sixteen pieces of a tile, in order. -/
def pieces (c : Fin 4 → IVec T32 8) (s : Fin 16 → FVec Ideal T1 .bf16) : List (FVec Ideal T16 .bf16) :=
  [upper (loRows (c 0)) (s 0) (s 1), lower (loRows (c 0)) (s 2) (s 3), upper (loRows (c 1)) (s 4) (s 5),
   lower (loRows (c 1)) (s 6) (s 7), upper (loRows (c 2)) (s 8) (s 9), lower (loRows (c 2)) (s 10) (s 11),
   upper (loRows (c 3)) (s 12) (s 13), lower (loRows (c 3)) (s 14) (s 15),
   upper (hiRows (c 0)) (s 0) (s 1), lower (hiRows (c 0)) (s 2) (s 3), upper (hiRows (c 1)) (s 4) (s 5),
   lower (hiRows (c 1)) (s 6) (s 7), upper (hiRows (c 2)) (s 8) (s 9), lower (hiRows (c 2)) (s 10) (s 11),
   upper (hiRows (c 3)) (s 12) (s 13), lower (hiRows (c 3)) (s 14) (s 15)]

/-- A tile read at row `16 p + q` is its piece `p` read at row `q`. -/
theorem tile_piece (c : Fin 4 → IVec T32 8) (s : Fin 16 → FVec Ideal T1 .bf16) (p : Nat) (hp : p < (pieces c s).length)
    (q : Fin 16) (l : Fin 128) (r : Fin 256) (hr : r.val = 16 * p + q.val) :
    tile c s (ix2 r l) = (pieces c s)[p] (ix2 q l) :=
  stack_apply (R := 256) (pieces c s) stack_shapes p hp q l r hr

/-- Which row of scales a row of the tile takes. -/
theorem scale_pick (s : Fin 16 → FVec Ideal T1 .bf16) (q : Fin 16) (l : Fin 128) (a b g : Fin 16)
    (ha : q.val < 8 → g = a) (hb : ¬ q.val < 8 → g = b) :
    (if q.val < 8 then s a (ix2 0 l) else s b (ix2 0 l)) = s g (ix2 0 l) := by
  by_cases h : q.val < 8
  · rw [if_pos h, ha h]
  · rw [if_neg h, hb h]

/-- A row below 32 is row `q` of the upper or of the lower sixteen. -/
theorem halves (w : Fin 32) : ∃ q : Fin 16, w = ⟨q.val, by omega⟩ ∨ w = ⟨16 + q.val, by omega⟩ := by
  by_cases h : w.val < 16
  · exact ⟨⟨w.val, h⟩, Or.inl rfl⟩
  · exact ⟨⟨w.val - 16, by omega⟩, Or.inr (Fin.ext (by simp only; omega))⟩

/-- Row `r` of the low half of a tile: byte row `r`'s low code times its scale. -/
theorem tile_lo (c : Fin 4 → IVec T32 8) (s : Fin 16 → FVec Ideal T1 .bf16) (v : Fin 4) (w : Fin 32) (l : Fin 128) (g : Fin 16)
    (hg : g.val = 4 * v.val + w.val / 8) (r : Fin 256) (hr : r.val = 32 * v.val + w.val) :
    tile c s (ix2 r l) = e2m1 (loCode (c v (ix2 w l))) * ((1/64 : ℝ) : EReal) * s g (ix2 0 l) := by
  obtain ⟨q, rfl | rfl⟩ := halves w
  · have hp : 2 * v.val < (pieces c s).length := by show 2 * v.val < 16; omega
    rw [tile_piece c s (2 * v.val) hp q l r (by rw [hr]; simp only; omega), ← loRows_apply]
    fin_cases v <;> exact (upper_apply _ _ _ q l).trans
      (congrArg _ (scale_pick s q l _ _ g (fun h => Fin.ext (by simp at hg ⊢; omega)) (fun h => Fin.ext (by simp at hg ⊢; omega))))
  · have hp : 2 * v.val + 1 < (pieces c s).length := by show 2 * v.val + 1 < 16; omega
    rw [tile_piece c s (2 * v.val + 1) hp q l r (by rw [hr]; simp only; omega), ← loRows_apply]
    fin_cases v <;> exact (lower_apply _ _ _ q l).trans
      (congrArg _ (scale_pick s q l _ _ g (fun h => Fin.ext (by simp at hg ⊢; omega)) (fun h => Fin.ext (by simp at hg ⊢; omega))))

/-- Row `128 + r` of a tile: byte row `r`'s high code times its scale. -/
theorem tile_hi (c : Fin 4 → IVec T32 8) (s : Fin 16 → FVec Ideal T1 .bf16) (v : Fin 4) (w : Fin 32) (l : Fin 128) (g : Fin 16)
    (hg : g.val = 4 * v.val + w.val / 8) (r : Fin 256) (hr : r.val = 128 + (32 * v.val + w.val)) :
    tile c s (ix2 r l) = e2m1 (hiCode (c v (ix2 w l))) * ((1/64 : ℝ) : EReal) * s g (ix2 0 l) := by
  obtain ⟨q, rfl | rfl⟩ := halves w
  · have hp : 8 + 2 * v.val < (pieces c s).length := by show 8 + 2 * v.val < 16; omega
    rw [tile_piece c s (8 + 2 * v.val) hp q l r (by rw [hr]; simp only; omega), ← hiRows_apply]
    fin_cases v <;> exact (upper_apply _ _ _ q l).trans
      (congrArg _ (scale_pick s q l _ _ g (fun h => Fin.ext (by simp at hg ⊢; omega)) (fun h => Fin.ext (by simp at hg ⊢; omega))))
  · have hp : 8 + 2 * v.val + 1 < (pieces c s).length := by show 8 + 2 * v.val + 1 < 16; omega
    rw [tile_piece c s (8 + 2 * v.val + 1) hp q l r (by rw [hr]; simp only; omega), ← hiRows_apply]
    fin_cases v <;> exact (lower_apply _ _ _ q l).trans
      (congrArg _ (scale_pick s q l _ _ g (fun h => Fin.ext (by simp at hg ⊢; omega)) (fun h => Fin.ext (by simp at hg ⊢; omega))))

/-- Two tiles side by side, read at a column of the left or of the right one. -/
theorem wide_apply (t : Fin 2 → FVec Ideal T256 .bf16) (r : Fin 256) (b : Fin 2) (l : Fin 128) (n : Fin 256)
    (hn : n.val = 128 * b.val + l.val) : wide (t 0) (t 1) (ix2 r n) = t b (ix2 r l) := by
  have hl := l.isLt
  fin_cases b
  · have : n.val = l.val := by simpa using hn
    pointwise [wide]
    rw [dif_pos (by omega)]
    congr 1
    apply congrArg₂ <;> first | rfl | exact Fin.ext this
  · have : n.val = 128 + l.val := by simpa using hn
    pointwise [wide]
    rw [dif_neg (by omega)]
    congr 1
    apply congrArg₂ <;> first | rfl | exact Fin.ext (by simp only; omega)

end Cert.Mlp

end
-- ==== Proof.Block.lean ====
/-
  The kernel's product of 12 rows with a packed weight matrix, over the arrays it reads: one block of 256 inputs by 256
  columns (`blockAt`), and the blocks of a column group added up in order (`chain`).
-/
module

public import proofs.«01_k».proof.Proof.Tile
public import Idealize.ShloMosaic.Lib.Pipeline.Value

@[expose] public section

noncomputable section

namespace Cert.Mlp

open Idealize.ShloMosaic

abbrev Mat (a b : Nat) : Shape := ⟨2, ![a, b]⟩

/-- A box of a matrix. -/
def cut {α : Type} {a b : Nat} (X : (Mat a b).Idx → α) (p q : Nat) (i j : Nat) (hi : i + p ≤ a) (hj : j + q ≤ b) : (Mat p q).Idx → α :=
  fun x => X ((Rect.unit (s := Mat a b) ![i, j] (Mat p q).size (fun d => by fin_cases d <;> assumption)).idx x)

section Defs
variable {F : FTy → Type} [FloatOps F] {R G N K : Nat}

/-- The tile of weights of input block `k` at columns `n` to `n + 127`. -/
def tileAt (X : IVec (Mat R N) 8) (T : FVec F (Mat G N) .bf16) (k n : Nat) (hR : 128 * k + 128 ≤ R) (hG : 16 * k + 16 ≤ G)
    (hN : n + 128 ≤ N) : FVec F T256 .bf16 :=
  tile (fun v => cut X 32 128 (128 * k + 32 * v.val) n (by have := v.isLt; omega) hN)
    (fun g => cut T 1 128 (16 * k + g.val) n (by have := g.isLt; omega) hN)

/-- The product of 256 inputs with the weights of block `k` at columns `n` to `n + 255`. -/
def blockAt (x : FVec F (Mat 12 256) .bf16) (X : IVec (Mat R N) 8) (T : FVec F (Mat G N) .bf16) (k n : Nat)
    (hR : 128 * k + 128 ≤ R) (hG : 16 * k + 16 ≤ G) (hN : n + 256 ≤ N) : FVec F (Mat 12 256) .f32 :=
  matmul (DotDims.plain 12 256 256) none x
    (wide (tileAt X T k n hR hG (by omega)) (tileAt X T k (n + 128) hR hG (by omega))) (constant (Mat 12 256) .f32 0x00000000#32)

/-- The products of blocks 0 to `k`, added up in order. -/
def chain (x : (k : Nat) → 256 * k + 256 ≤ K → FVec F (Mat 12 256) .bf16) (X : IVec (Mat R N) 8) (T : FVec F (Mat G N) .bf16) (n : Nat)
    (hN : n + 256 ≤ N) :
    (k : Nat) → 256 * k + 256 ≤ K → 128 * k + 128 ≤ R → 16 * k + 16 ≤ G → FVec F (Mat 12 256) .f32
  | 0, hK, hR, hG => blockAt (x 0 hK) X T 0 n hR hG hN
  | k + 1, hK, hR, hG => addf (chain x X T n hN k (by omega) (by omega) (by omega)) (blockAt (x (k + 1) hK) X T (k + 1) n hR hG hN)

/-- The scale table: the scales times 64. -/
def table (b : FVec F (Mat G N) .fp8e4m3) (h : (Mat G N).ShapeCasts (Mat G N)) : FVec F (Mat G N) .bf16 :=
  shapeCast (Mat G N) (truncf .bf16 (mulf (extf .f32 b (by decide)) (broadcast (Mat G N) (Scalar.ofBits .f32 0x42800000#32))) (by decide)) h

/-- The inputs of block `k`, read for the gate and up products. -/
def inputs (x : FVec F (Mat 12 K) .bf16) (k : Nat) (hK : 256 * k + 256 ≤ K) : FVec F (Mat 12 256) .bf16 :=
  shapeCast (Mat 12 256) (cut x 12 256 0 (256 * k) (by omega) hK) (by decide)

/-- One group of 256 columns of the gated activations. -/
def actPiece (gs us : F .f32) (x : FVec F (Mat 12 K) .bf16) (P : FVec F (Mat 256 256) .bf16)
    (X : IVec (Mat R N) 8) (T : FVec F (Mat G N) .bf16) (X' : IVec (Mat R N) 8) (T' : FVec F (Mat G N) .bf16) (n : Nat) (hN : n + 256 ≤ N)
    (k : Nat) (hK : 256 * k + 256 ≤ K) (hR : 128 * k + 128 ≤ R) (hG : 16 * k + 16 ≤ G) : FVec F (Mat 12 256) .bf16 :=
  let g := mulf (chain (inputs x) X T n hN k hK hR hG) (broadcast (Mat 12 256) gs)
  let u := mulf (chain (inputs x) X' T' n hN k hK hR hG) (broadcast (Mat 12 256) us)
  shapeCast (Mat 12 256) (truncf .bf16 (matmul (DotDims.plain 12 256 256) none
    (truncf .bf16 (mulf (mulf g (logistic g)) u) (by decide)) (shapeCast (Mat 256 256) (cut P 256 256 0 0 (by omega) (by omega)) (by decide))
    (constant (Mat 12 256) .f32 0x00000000#32)) (by decide)) (by decide)

/-- The activations of block `k`, read for the down product. -/
def acts (x : FVec F (Mat 12 K) .bf16) (k : Nat) (hK : 256 * k + 256 ≤ K) : FVec F (Mat 12 256) .bf16 :=
  cut x 12 256 0 (256 * k) (by omega) hK

/-- One group of 256 columns of the accumulator after a step: what it held and the down product. -/
def accPiece (A : FVec F (Mat 12 N) .f32) (x : FVec F (Mat 12 K) .bf16) (X : IVec (Mat R N) 8) (T : FVec F (Mat G N) .bf16)
    (n : Nat) (hN : n + 256 ≤ N) (k : Nat) (hK : 256 * k + 256 ≤ K) (hR : 128 * k + 128 ≤ R) (hG : 16 * k + 16 ≤ G) : FVec F (Mat 12 256) .f32 :=
  shapeCast (Mat 12 256) (addf (cut A 12 256 0 n (by omega) hN) (chain (acts x) X T n hN k hK hR hG)) (by decide)

/-- The stores that fill the activations, last first: `n` groups of 256 columns. -/
def actList {W : Nat} (gs us : F .f32) (x : FVec F (Mat 12 K) .bf16) (P : FVec F (Mat 256 256) .bf16)
    (X : IVec (Mat R W) 8) (T : FVec F (Mat G W) .bf16) (X' : IVec (Mat R W) 8) (T' : FVec F (Mat G W) .bf16)
    (k : Nat) (hK : 256 * k + 256 ≤ K) (hR : 128 * k + 128 ≤ R) (hG : 16 * k + 16 ≤ G) :
    (n : Nat) → 256 * n ≤ W → List (View.Piece (Elt F) (Mat 12 W) .bf16)
  | 0, _ => []
  | n + 1, h => ⟨Rect.unit (s := Mat 12 W) ![0, 256 * n] (Mat 12 256).size (fun d => by fin_cases d; exacts [(by decide : 0 + 12 ≤ 12), h]),
      actPiece gs us x P X T X' T' (256 * n) h k hK hR hG⟩ :: actList gs us x P X T X' T' k hK hR hG n (by omega)

/-- The stores that update the accumulator `A`, last first: `n` groups of 256 columns. -/
def accList (A : FVec F (Mat 12 N) .f32) (x : FVec F (Mat 12 K) .bf16) (X : IVec (Mat R N) 8) (T : FVec F (Mat G N) .bf16)
    (k : Nat) (hK : 256 * k + 256 ≤ K) (hR : 128 * k + 128 ≤ R) (hG : 16 * k + 16 ≤ G) :
    (n : Nat) → 256 * n ≤ N → List (View.Piece (Elt F) (Mat 12 N) .f32)
  | 0, _ => []
  | n + 1, h => ⟨Rect.unit (s := Mat 12 N) ![0, 256 * n] (Mat 12 256).size (fun d => by fin_cases d; exacts [(by decide : 0 + 12 ≤ 12), h]),
      accPiece A x X T (256 * n) h k hK hR hG⟩ :: accList A x X T k hK hR hG n (by omega)

/-- The same with the accumulator first set to zero; `rd` is what is read back after a list of stores. -/
def accListZ (rd : List (View.Piece (Elt F) (Mat 12 N) .f32) → FVec F (Mat 12 N) .f32) (q : (Mat 12 N).ShapeCasts (Mat 12 N))
    (x : FVec F (Mat 12 K) .bf16) (X : IVec (Mat R N) 8) (T : FVec F (Mat G N) .bf16)
    (k : Nat) (hK : 256 * k + 256 ≤ K) (hR : 128 * k + 128 ≤ R) (hG : 16 * k + 16 ≤ G) :
    (n : Nat) → 256 * n ≤ N → List (View.Piece (Elt F) (Mat 12 N) .f32)
  | 0, _ => [⟨Rect.unit (s := Mat 12 N) ![0, 0] (Mat 12 N).size (fun d => by fin_cases d; exacts [Nat.le_of_eq (Nat.zero_add 12), Nat.le_of_eq (Nat.zero_add N)]),
      shapeCast (Mat 12 N) (broadcast (Mat 12 N) (Scalar.ofBits .f32 0x00000000#32)) q⟩]
  | n + 1, h => ⟨Rect.unit (s := Mat 12 N) ![0, 256 * n] (Mat 12 256).size (fun d => by fin_cases d; exacts [(by decide : 0 + 12 ≤ 12), h]),
      accPiece (rd (accListZ rd q x X T k hK hR hG n (by omega))) x X T (256 * n) h k hK hR hG⟩ ::
      accListZ rd q x X T k hK hR hG n (by omega)

/-- The output: the residual input and the accumulator times the down projection's scale. -/
def outOf (h : FVec F (Mat 12 N) .bf16) (A : FVec F (Mat 12 N) .f32) (ds : F .f32) (q : (Mat 12 N).ShapeCasts (Mat 12 N)) : FVec F (Mat 12 N) .bf16 :=
  truncf .bf16 (addf (extf .f32 h (by decide)) (mulf A (broadcast (Mat 12 N) ds))) (by decide)

end Defs

end Cert.Mlp

end
-- ==== Proof.Weights.lean ====
/-
  The reference's weights: each 4-bit code selected by its bits (`field`), times the scale of its group of 8 byte rows
  (`weights`), and its linear layer (`linear`); with what they are worth at an index.
-/
module

public import proofs.«01_k».proof.Proof.Nibble
public import Idealize.ShloMosaic.Lib.MatmulPlain

@[expose] public section

noncomputable section

namespace Cert.Mlp

open Idealize.ShloMosaic
open scoped BigOperators

section Defs
variable {F : FTy → Type} [FloatOps F] {S : Shape}

/-- Bit `i` of every entry, as a mask. -/
def bit (c : IVec S 32) (i : BitVec 32) : IVec S 1 :=
  cmpi .eq (andi (shrsi c (broadcast S i)) (broadcast S 1#32)) (broadcast S 1#32)

/-- The codes' magnitudes, then with their signs. -/
def magnitude (c : IVec S 32) : FVec F S .bf16 :=
  select (bit c 2#32)
    (select (bit c 1#32)
      (select (bit c 0#32) (broadcast S (Scalar.ofBits .bf16 0x40C0#16)) (broadcast S (Scalar.ofBits .bf16 0x4080#16)))
      (select (bit c 0#32) (broadcast S (Scalar.ofBits .bf16 0x4040#16)) (broadcast S (Scalar.ofBits .bf16 0x4000#16))))
    (select (bit c 1#32)
      (select (bit c 0#32) (broadcast S (Scalar.ofBits .bf16 0x3FC0#16)) (broadcast S (Scalar.ofBits .bf16 0x3F80#16)))
      (select (bit c 0#32) (broadcast S (Scalar.ofBits .bf16 0x3F00#16)) (broadcast S (Scalar.ofBits .bf16 0x0000#16))))
def field (c : IVec S 32) : FVec F S .bf16 :=
  select (bit c 3#32) (subf (broadcast S (Scalar.ofBits .bf16 0x0000#16)) (magnitude c)) (magnitude c)

variable (kh G N : Nat)

/-- Codes times scales, a scale for 8 rows. -/
def weights (f : FVec F ⟨2, ![kh, N]⟩ .bf16) (b : FVec F ⟨2, ![G, N]⟩ .fp8e4m3) (h₁ : (⟨2, ![kh, N]⟩ : Shape).ShapeCasts ⟨3, ![G, 8, N]⟩)
    (h₂ : (⟨2, ![G, N]⟩ : Shape).ShapeCasts ⟨3, ![G, 1, N]⟩) (h₃ : (⟨3, ![G, 1, N]⟩ : Shape).Broadcasts ⟨3, ![G, 8, N]⟩)
    (h₄ : (⟨3, ![G, 8, N]⟩ : Shape).ShapeCasts ⟨2, ![kh, N]⟩) : FVec F ⟨2, ![kh, N]⟩ .bf16 :=
  shapeCast ⟨2, ![kh, N]⟩ (mulf (shapeCast ⟨3, ![G, 8, N]⟩ f h₁)
    (broadcastTo ⟨3, ![G, 8, N]⟩ (shapeCast ⟨3, ![G, 1, N]⟩ (extf .bf16 b (by decide)) h₂) h₃)) h₄

end Defs

/-! ## What they are worth -/

theorem bf16_consts : Ideal.ofBits .bf16 0x40C0#16 = ((6 : ℝ) : EReal) ∧ Ideal.ofBits .bf16 0x4080#16 = ((4 : ℝ) : EReal)
    ∧ Ideal.ofBits .bf16 0x4040#16 = ((3 : ℝ) : EReal) ∧ Ideal.ofBits .bf16 0x4000#16 = ((2 : ℝ) : EReal)
    ∧ Ideal.ofBits .bf16 0x3FC0#16 = ((3/2 : ℝ) : EReal) ∧ Ideal.ofBits .bf16 0x3F80#16 = ((1 : ℝ) : EReal)
    ∧ Ideal.ofBits .bf16 0x3F00#16 = ((1/2 : ℝ) : EReal) ∧ Ideal.ofBits .bf16 0x0000#16 = ((0 : ℝ) : EReal) := by
  refine ⟨?_, ?_, ?_, ?_, ?_, ?_, ?_, ?_⟩ <;>
    · simp [Ideal.ofBits, Ideal.ieee, -EReal.coe_mul]
      try norm_num

/-- Bit `i` of a code, as the reference tests it. -/
theorem bit_test : ∀ n : BitVec 4, ∀ i : Fin 4,
    IntOp.cmpi .eq (IntOp.andi (IntOp.shrsi .vector (n.setWidth 32) (BitVec.ofNat 32 i.val)) 1#32) 1#32
      = BitVec.ofBool (n.getLsbD i.val) := by decide +kernel

/-- The selection gives the code's value. -/
theorem field_apply {S : Shape} (c : IVec S 32) (j : S.Idx) (n : BitVec 4) (h : c j = n.setWidth 32) :
    field (F := Ideal) c j = e2m1 n := by
  obtain ⟨h6, h4, h3, h2, h15, h1, h05, h0⟩ := bf16_consts
  pointwise [field, magnitude, bit]
  rw [h]
  clear h
  rw [show (0#32) = BitVec.ofNat 32 (0 : Fin 4).val from rfl, show (2#32) = BitVec.ofNat 32 (2 : Fin 4).val from rfl,
    show (3#32) = BitVec.ofNat 32 (3 : Fin 4).val from rfl, bit_test, bit_test, bit_test]
  have t1 := bit_test n 1
  rw [show BitVec.ofNat 32 (1 : Fin 4).val = 1#32 from rfl] at t1
  rw [t1, h6, h4, h3, h2, h15, h05]
  clear t1
  revert n
  apply forall_code
  intro k
  fin_cases k <;> simp (decide := true) [Scalar.select, e2m1, BitVec.getLsbD]

theorem lo_field : ∀ b : BitVec 8, b.setWidth 32 &&& 15#32 = (loCode b).setWidth 32 := by decide +kernel
theorem hi_field : ∀ b : BitVec 8, (b.setWidth 32).sshiftRight 4 = (hiCode b).setWidth 32 := by decide +kernel

theorem weights_apply (kh G N : Nat) (f : FVec Ideal ⟨2, ![kh, N]⟩ .bf16) (b : FVec Ideal ⟨2, ![G, N]⟩ .fp8e4m3) (h₁ h₂ h₃ h₄)
    (k : Fin kh) (n : Fin N) (g : Fin G) (r : Fin 8) (hk : k.val = 8 * g.val + r.val) :
    weights kh G N f b h₁ h₂ h₃ h₄ (ix2 k n) = f (ix2 k n) * b (ix2 g n) := by
  have e₄ : Shape.reshapeEquiv h₄ (ix2 k n) = ix3 g r n :=
    Shape.reshapeEquiv_eq_of_rowMajor h₄ (by
      rw [Shape.rowMajor_val_three, Shape.rowMajor_val_two]
      show (g.val * 8 + r.val) * N + n.val = k.val * N + n.val
      rw [hk, Nat.mul_comm 8])
  have e₁ : Shape.reshapeEquiv h₁ (ix3 g r n) = ix2 k n :=
    Shape.reshapeEquiv_eq_of_rowMajor h₁ (by
      rw [Shape.rowMajor_val_three, Shape.rowMajor_val_two]
      show k.val * N + n.val = (g.val * 8 + r.val) * N + n.val
      rw [hk, Nat.mul_comm 8])
  have e₂ : Shape.reshapeEquiv h₂ (ix3 g 0 n) = ix2 g n :=
    Shape.reshapeEquiv_eq_of_rowMajor h₂ (by
      rw [Shape.rowMajor_val_three, Shape.rowMajor_val_two]
      show g.val * N + n.val = (g.val * 1 + 0) * N + n.val
      rw [Nat.mul_one, Nat.add_zero])
  have e₃ : (broadcastTo ⟨3, ![G, 8, N]⟩ (shapeCast ⟨3, ![G, 1, N]⟩ (extf (F := Ideal) .bf16 b (by decide)) h₂) h₃) (ix3 g r n) = b (ix2 g n) := by
    have : (broadcastTo ⟨3, ![G, 8, N]⟩ (shapeCast ⟨3, ![G, 1, N]⟩ (extf (F := Ideal) .bf16 b (by decide)) h₂) h₃) (ix3 g r n)
        = shapeCast ⟨3, ![G, 1, N]⟩ (extf (F := Ideal) .bf16 b (by decide)) h₂ (ix3 g 0 n) := by
      unfold broadcastTo
      refine congrArg _ (funext fun a => Fin.ext ?_)
      match a with
      | ⟨0, _⟩ =>
        split
        · rename_i h; have h : G = 1 := h; have := g.isLt; show 0 = g.val; omega
        · rfl
      | ⟨1, _⟩ =>
        split
        · rfl
        · rename_i h; exact absurd rfl h
      | ⟨2, _⟩ =>
        split
        · rename_i h; have h : N = 1 := h; have := n.isLt; show 0 = n.val; omega
        · rfl
    rw [this, Pointwise.shapeCast_apply, e₂]
    pointwise
  rw [weights, Pointwise.shapeCast_apply, e₄]
  show Scalar.mulf (F := Ideal) _ _ = _
  rw [e₃, Pointwise.shapeCast_apply, e₁]
  rfl

section Linear
variable {F : FTy → Type} [FloatOps F] (kh G N : Nat)

/-- The even (`i = 0`) or the odd (`i = 1`) entries of a row: pairs split apart. -/
def half (i : Nat) (x : FVec F ⟨2, ![12, 2 * kh]⟩ .bf16) (h₁ : (⟨2, ![12, 2 * kh]⟩ : Shape).ShapeCasts ⟨3, ![12, kh, 2]⟩)
    (h₂ : (⟨3, ![12, kh, 2]⟩ : Shape).Slices ![0, 0, i] ⟨3, ![12, kh, 1]⟩) (h₃ : (⟨3, ![12, kh, 1]⟩ : Shape).ShapeCasts ⟨2, ![12, kh]⟩) : FVec F ⟨2, ![12, kh]⟩ .bf16 :=
  shapeCast ⟨2, ![12, kh]⟩ (extractStridedSlice ⟨3, ![12, kh, 1]⟩ ![0, 0, i] (shapeCast ⟨3, ![12, kh, 2]⟩ x h₁) h₂) h₃

/-- The reference's linear layer. -/
def linear (x : FVec F ⟨2, ![12, 2 * kh]⟩ .bf16) (c : IVec ⟨2, ![kh, N]⟩ 8) (b : FVec F ⟨2, ![G, N]⟩ .fp8e4m3) (s : FVec F ⟨1, ![1]⟩ .f32)
    (h₁ : (⟨2, ![12, 2 * kh]⟩ : Shape).ShapeCasts ⟨3, ![12, kh, 2]⟩) (h₂ : (⟨3, ![12, kh, 2]⟩ : Shape).Slices ![0, 0, 0] ⟨3, ![12, kh, 1]⟩)
    (h₂' : (⟨3, ![12, kh, 2]⟩ : Shape).Slices ![0, 0, 1] ⟨3, ![12, kh, 1]⟩) (h₃ : (⟨3, ![12, kh, 1]⟩ : Shape).ShapeCasts ⟨2, ![12, kh]⟩)
    (g₁ : (⟨2, ![kh, N]⟩ : Shape).ShapeCasts ⟨3, ![G, 8, N]⟩) (g₂ : (⟨2, ![G, N]⟩ : Shape).ShapeCasts ⟨3, ![G, 1, N]⟩)
    (g₃ : (⟨3, ![G, 1, N]⟩ : Shape).Broadcasts ⟨3, ![G, 8, N]⟩) (g₄ : (⟨3, ![G, 8, N]⟩ : Shape).ShapeCasts ⟨2, ![kh, N]⟩) : FVec F ⟨2, ![12, N]⟩ .f32 :=
  mulf (addf
      (matmul (DotDims.plain 12 kh N) none (half kh 0 x h₁ h₂ h₃)
        (weights kh G N (field (andi (extui 32 c (by decide)) (broadcast ⟨2, ![kh, N]⟩ 15#32))) b g₁ g₂ g₃ g₄) (broadcast ⟨2, ![12, N]⟩ (Scalar.ofBits .f32 0x00000000#32)))
      (matmul (DotDims.plain 12 kh N) none (half kh 1 x h₁ h₂' h₃)
        (weights kh G N (field (shrsi (extui 32 c (by decide)) (broadcast ⟨2, ![kh, N]⟩ 4#32))) b g₁ g₂ g₃ g₄) (broadcast ⟨2, ![12, N]⟩ (Scalar.ofBits .f32 0x00000000#32))))
    (broadcast ⟨2, ![12, N]⟩ (extractAt ![0] s (by decide)))

end Linear

/-- The value of a weight's low and of its high code, with its scale: byte row `k`, column `n`. -/
def wlo {kh G N : Nat} (hG : kh = 8 * G) (c : IVec ⟨2, ![kh, N]⟩ 8) (b : FVec Ideal ⟨2, ![G, N]⟩ .fp8e4m3) (k : Fin kh) (n : Fin N) : EReal :=
  e2m1 (loCode (c (ix2 k n))) * b (ix2 ⟨k.val / 8, by omega⟩ n)
def whi {kh G N : Nat} (hG : kh = 8 * G) (c : IVec ⟨2, ![kh, N]⟩ 8) (b : FVec Ideal ⟨2, ![G, N]⟩ .fp8e4m3) (k : Fin kh) (n : Fin N) : EReal :=
  e2m1 (hiCode (c (ix2 k n))) * b (ix2 ⟨k.val / 8, by omega⟩ n)

/-- A row of inputs times a column of weights: the sum of the products at even and at odd positions. -/
def dotVal {kh G N : Nat} (hG : kh = 8 * G) (x : Fin (2 * kh) → EReal) (c : IVec ⟨2, ![kh, N]⟩ 8) (b : FVec Ideal ⟨2, ![G, N]⟩ .fp8e4m3) (n : Fin N) : EReal :=
  (∑ k : Fin kh, x ⟨2 * k.val, by omega⟩ * wlo hG c b k n) + ∑ k : Fin kh, x ⟨2 * k.val + 1, by omega⟩ * whi hG c b k n

/-- A product of matrices at an entry. -/
theorem dot_apply {M K N : Nat} {φ₁ φ₂ : FTy} (lhs : FVec Ideal ⟨2, ![M, K]⟩ φ₁) (rhs : FVec Ideal ⟨2, ![K, N]⟩ φ₂) (acc : FVec Ideal ⟨2, ![M, N]⟩ .f32)
    (r : Fin M) (n : Fin N) :
    FloatOps.matmul (DotDims.plain M K N) none lhs rhs acc (ix2 r n) = acc (ix2 r n) + ∑ k : Fin K, lhs (ix2 r k) * rhs (ix2 k n) :=
  Ideal.matmul_plain_apply none lhs rhs acc r n

theorem half_apply (kh i : Nat) (x : FVec Ideal ⟨2, ![12, 2 * kh]⟩ .bf16) (h₁ h₂ h₃) (r : Fin 12) (k : Fin kh) (hi : i < 2) :
    half kh i x h₁ h₂ h₃ (ix2 r k) = x (ix2 r ⟨2 * k.val + i, by omega⟩) := by
  have e₃ : Shape.reshapeEquiv h₃ (ix2 r k) = ix3 r k 0 :=
    Shape.reshapeEquiv_eq_of_rowMajor h₃ (by
      rw [Shape.rowMajor_val_three, Shape.rowMajor_val_two]
      show (r.val * kh + k.val) * 1 + 0 = r.val * kh + k.val
      rw [Nat.mul_one, Nat.add_zero])
  have e₁ : Shape.reshapeEquiv h₁ (ix3 r k ⟨i, hi⟩) = ix2 r ⟨2 * k.val + i, by omega⟩ :=
    Shape.reshapeEquiv_eq_of_rowMajor h₁ (by
      rw [Shape.rowMajor_val_three, Shape.rowMajor_val_two]
      show r.val * (2 * kh) + (2 * k.val + i) = (r.val * kh + k.val) * 2 + i
      ring)
  rw [half, Pointwise.shapeCast_apply, e₃]
  have : extractStridedSlice ⟨3, ![12, kh, 1]⟩ ![0, 0, i] (shapeCast ⟨3, ![12, kh, 2]⟩ x h₁) h₂ (ix3 r k 0)
      = shapeCast ⟨3, ![12, kh, 2]⟩ x h₁ (ix3 r k ⟨i, hi⟩) := by
    unfold extractStridedSlice
    refine congrArg _ (funext fun a => Fin.ext ?_)
    match a with
    | ⟨0, _⟩ => exact Nat.zero_add _
    | ⟨1, _⟩ => exact Nat.zero_add _
    | ⟨2, _⟩ => rfl
  rw [this, Pointwise.shapeCast_apply, e₁]

theorem linear_apply (kh G N : Nat) (hG : kh = 8 * G) (x : FVec Ideal ⟨2, ![12, 2 * kh]⟩ .bf16) (c : IVec ⟨2, ![kh, N]⟩ 8)
    (b : FVec Ideal ⟨2, ![G, N]⟩ .fp8e4m3) (s : FVec Ideal ⟨1, ![1]⟩ .f32) (h₁ h₂ h₂' h₃ g₁ g₂ g₃ g₄) (r : Fin 12) (n : Fin N) :
    linear kh G N x c b s h₁ h₂ h₂' h₃ g₁ g₂ g₃ g₄ (ix2 r n) = dotVal hG (fun k => x (ix2 r k)) c b n * s (ix1 0) := by
  have hz : Ideal.ofBits .f32 0x00000000#32 = 0 := Ideal.ofBits_zero_f32
  have lo : ∀ k : Fin kh, weights kh G N (field (F := Ideal) (andi (extui 32 c (by decide)) (broadcast ⟨2, ![kh, N]⟩ 15#32))) b g₁ g₂ g₃ g₄ (ix2 k n) = wlo hG c b k n := by
    intro k
    rw [weights_apply kh G N _ b g₁ g₂ g₃ g₄ k n ⟨k.val / 8, by omega⟩ ⟨k.val % 8, by omega⟩ (by simp only; omega),
      field_apply _ _ (loCode (c (ix2 k n))) (lo_field _), wlo]
  have hi : ∀ k : Fin kh, weights kh G N (field (F := Ideal) (shrsi (extui 32 c (by decide)) (broadcast ⟨2, ![kh, N]⟩ 4#32))) b g₁ g₂ g₃ g₄ (ix2 k n) = whi hG c b k n := by
    intro k
    rw [weights_apply kh G N _ b g₁ g₂ g₃ g₄ k n ⟨k.val / 8, by omega⟩ ⟨k.val % 8, by omega⟩ (by simp only; omega),
      field_apply _ _ (hiCode (c (ix2 k n))) (hi_field _), whi]
  rw [linear]
  show (FloatOps.matmul (DotDims.plain 12 kh N) none _ _ _ (ix2 r n) + FloatOps.matmul (DotDims.plain 12 kh N) none _ _ _ (ix2 r n)) * _ = _
  rw [dot_apply, dot_apply]
  simp only [lo, hi, half_apply _ 0 x h₁ h₂ h₃ r _ (by decide), half_apply _ 1 x h₁ h₂' h₃ r _ (by decide)]
  pointwise
  rw [dotVal]

end Cert.Mlp

end
-- ==== Proof.Product.lean ====
/-
  What the kernel's products are worth (Ideal): a tile holds the weights, a block's product is a sum over 128 code rows, and
  the blocks added up are the sum over all of them.
-/
module

public import proofs.«01_k».proof.Proof.Block
public import proofs.«01_k».proof.Proof.Weights

@[expose] public section

noncomputable section

namespace Cert.Mlp

open Idealize.ShloMosaic

theorem cut_apply {α : Type} {a b : Nat} (X : (Mat a b).Idx → α) (p q i j : Nat) (hi : i + p ≤ a) (hj : j + q ≤ b) (r : Fin p) (c : Fin q) :
    cut X p q i j hi hj (ix2 r c) = X (ix2 ⟨i + r.val, by have := r.isLt; omega⟩ ⟨j + c.val, by have := c.isLt; omega⟩) := by
  unfold cut
  congr 1
  funext d
  apply Fin.ext
  match d with
  | ⟨0, _⟩ => show i + 1 * r.val = i + r.val; rw [Nat.one_mul]
  | ⟨1, _⟩ => show j + 1 * c.val = j + c.val; rw [Nat.one_mul]

theorem cut_self {α : Type} {a b : Nat} (X : (Mat a b).Idx → α) (hi : 0 + a ≤ a) (hj : 0 + b ≤ b) : cut X a b 0 0 hi hj = X := by
  unfold cut
  funext x
  congr 1
  funext d
  apply Fin.ext
  match d with
  | ⟨0, _⟩ => show 0 + 1 * (x 0).val = (x 0).val; omega
  | ⟨1, _⟩ => show 0 + 1 * (x 1).val = (x 1).val; omega

theorem ix_congr {α : Type} {a b : Nat} (X : (Mat a b).Idx → α) {i i' : Fin a} {j j' : Fin b} (hi : i.val = i'.val) (hj : j.val = j'.val) :
    X (ix2 i j) = X (ix2 i' j') := by
  rw [Fin.ext hi, Fin.ext hj]

variable {R G N K : Nat}

theorem table_apply (b : FVec Ideal (Mat G N) .fp8e4m3) (h) (i : (Mat G N).Idx) :
    table b h i = b i * Ideal.ofBits .f32 0x42800000#32 := by
  unfold table
  rw [shapeCast_self]
  rfl

/-- A weight: the code's value times its group's scale. -/
theorem scaled (e s : EReal) : e * ((1/64 : ℝ) : EReal) * (s * Ideal.ofBits .f32 0x42800000#32) = e * s := by
  rw [mul_mul_mul_comm e _ s _, sixtyfour, mul_one]

section Chain

variable (X : IVec (Mat R N) 8) (b : FVec Ideal (Mat G N) .fp8e4m3) (hs : (Mat G N).ShapeCasts (Mat G N))

theorem tileAt_lo (k n : Nat) (hR hG hN) (p l : Fin 128) :
    tileAt X (table b hs) k n hR hG hN (ix2 ⟨p.val, by have := p.isLt; omega⟩ l)
      = e2m1 (loCode (X (ix2 ⟨128 * k + p.val, by have := p.isLt; omega⟩ ⟨n + l.val, by have := l.isLt; omega⟩)))
        * b (ix2 ⟨16 * k + p.val / 8, by have := p.isLt; omega⟩ ⟨n + l.val, by have := l.isLt; omega⟩) := by
  have hp := p.isLt
  unfold tileAt
  rw [tile_lo _ _ ⟨p.val / 32, by omega⟩ ⟨p.val % 32, by omega⟩ l ⟨p.val / 8, by omega⟩ (by dsimp only; omega) _ (by dsimp only; omega),
    cut_apply, cut_apply, table_apply, scaled]
  congr 4
  all_goals first | rfl | (congr 1; apply Fin.ext; dsimp only; omega) | skip

theorem tileAt_hi (k n : Nat) (hR hG hN) (p l : Fin 128) :
    tileAt X (table b hs) k n hR hG hN (ix2 ⟨128 + p.val, by have := p.isLt; omega⟩ l)
      = e2m1 (hiCode (X (ix2 ⟨128 * k + p.val, by have := p.isLt; omega⟩ ⟨n + l.val, by have := l.isLt; omega⟩)))
        * b (ix2 ⟨16 * k + p.val / 8, by have := p.isLt; omega⟩ ⟨n + l.val, by have := l.isLt; omega⟩) := by
  have hp := p.isLt
  unfold tileAt
  rw [tile_hi _ _ ⟨p.val / 32, by omega⟩ ⟨p.val % 32, by omega⟩ l ⟨p.val / 8, by omega⟩ (by dsimp only; omega) _ (by dsimp only; omega),
    cut_apply, cut_apply, table_apply, scaled]
  congr 4
  all_goals first | rfl | (congr 1; apply Fin.ext; dsimp only; omega) | skip

/-- The terms of a product: a pair of inputs at positions `2 q` and `2 q + 1` with the two weights of byte row `q`. -/
def pairs (xs lo hi : Nat → EReal) (q : Nat) : EReal := xs (2 * q) * lo q + xs (2 * q + 1) * hi q

theorem blockAt_apply (x : FVec Ideal (Mat 12 256) .bf16) (k n : Nat) (hRG : R = 8 * G) (hR hG hN) (r : Fin 12) (c : Fin 256) (xs lo hi : Nat → EReal)
    (hx0 : ∀ p : Fin 128, x (ix2 r ⟨p.val, by have := p.isLt; omega⟩) = xs (2 * (128 * k + p.val)))
    (hx1 : ∀ p : Fin 128, x (ix2 r ⟨128 + p.val, by have := p.isLt; omega⟩) = xs (2 * (128 * k + p.val) + 1))
    (hlo : ∀ (q : Nat) (hq : q < R), wlo hRG X b ⟨q, hq⟩ ⟨n + c.val, by have := c.isLt; omega⟩ = lo q)
    (hhi : ∀ (q : Nat) (hq : q < R), whi hRG X b ⟨q, hq⟩ ⟨n + c.val, by have := c.isLt; omega⟩ = hi q) :
    blockAt x X (table b hs) k n hR hG hN (ix2 r c) = ∑ p ∈ Finset.range 128, pairs xs lo hi (128 * k + p) := by
  have hc := c.isLt
  have hw : ∀ i : Fin 256, wide (tileAt X (table b hs) k n hR hG (by omega)) (tileAt X (table b hs) k (n + 128) hR hG (by omega)) (ix2 i c)
      = tileAt X (table b hs) k (n + 128 * (c.val / 128)) hR hG (by omega) (ix2 i ⟨c.val % 128, by omega⟩) := by
    intro i
    have := wide_apply (fun j : Fin 2 => tileAt X (table b hs) k (n + 128 * j.val) hR hG (by have := j.isLt; omega)) i ⟨c.val / 128, by omega⟩
      ⟨c.val % 128, by omega⟩ c (by dsimp only; omega)
    exact this
  have hl : ∀ p : Fin 128, tileAt X (table b hs) k (n + 128 * (c.val / 128)) hR hG (by omega) (ix2 ⟨p.val, by have := p.isLt; omega⟩ ⟨c.val % 128, by omega⟩)
      = lo (128 * k + p.val) := by
    intro p
    have hp := p.isLt
    rw [tileAt_lo, ← hlo (128 * k + p.val) (by omega), wlo]
    exact congrArg₂ (· * ·) (congrArg (fun z => e2m1 (loCode z)) (ix_congr X rfl (by dsimp only; omega)))
      (ix_congr b (by dsimp only; omega) (by dsimp only; omega))
  have hh : ∀ p : Fin 128, tileAt X (table b hs) k (n + 128 * (c.val / 128)) hR hG (by omega) (ix2 ⟨128 + p.val, by have := p.isLt; omega⟩ ⟨c.val % 128, by omega⟩)
      = hi (128 * k + p.val) := by
    intro p
    have hp := p.isLt
    rw [tileAt_hi, ← hhi (128 * k + p.val) (by omega), whi]
    exact congrArg₂ (· * ·) (congrArg (fun z => e2m1 (hiCode z)) (ix_congr X rfl (by dsimp only; omega)))
      (ix_congr b (by dsimp only; omega) (by dsimp only; omega))
  have e : blockAt x X (table b hs) k n hR hG hN (ix2 r c) = (0 : EReal) + ∑ i : Fin (128 + 128), x (ix2 r i)
      * wide (tileAt X (table b hs) k n hR hG (by omega)) (tileAt X (table b hs) k (n + 128) hR hG (by omega)) (ix2 i c) := by
    rw [← Ideal.ofBits_zero_f32]
    exact dot_apply x _ _ r c
  rw [e, zero_add, Fin.sum_univ_add, ← Fin.sum_univ_eq_sum_range (fun p => pairs xs lo hi (128 * k + p)) 128, ← Finset.sum_add_distrib]
  refine Finset.sum_congr rfl fun p _ => ?_
  rw [hw, hw]
  unfold pairs
  exact congrArg₂ (· + ·) (congrArg₂ (· * ·) (hx0 p) (hl p)) (congrArg₂ (· * ·) (hx1 p) (hh p))

theorem chain_apply (x : (k : Nat) → 256 * k + 256 ≤ K → FVec Ideal (Mat 12 256) .bf16) (n : Nat) (hRG : R = 8 * G) (hN) (r : Fin 12) (c : Fin 256)
    (xs lo hi : Nat → EReal)
    (hx0 : ∀ k hK, ∀ p : Fin 128, x k hK (ix2 r ⟨p.val, by have := p.isLt; omega⟩) = xs (2 * (128 * k + p.val)))
    (hx1 : ∀ k hK, ∀ p : Fin 128, x k hK (ix2 r ⟨128 + p.val, by have := p.isLt; omega⟩) = xs (2 * (128 * k + p.val) + 1))
    (hlo : ∀ (q : Nat) (hq : q < R), wlo hRG X b ⟨q, hq⟩ ⟨n + c.val, by have := c.isLt; omega⟩ = lo q)
    (hhi : ∀ (q : Nat) (hq : q < R), whi hRG X b ⟨q, hq⟩ ⟨n + c.val, by have := c.isLt; omega⟩ = hi q) :
    ∀ (k : Nat) (hK hR hG), chain x X (table b hs) n hN k hK hR hG (ix2 r c) = ∑ q ∈ Finset.range (128 * k + 128), pairs xs lo hi q
  | 0, hK, hR, hG => by
    rw [chain, blockAt_apply X b hs _ 0 n hRG hR hG hN r c xs lo hi (hx0 0 hK) (hx1 0 hK) hlo hhi]
    simp only [Nat.mul_zero, Nat.zero_add]
  | k + 1, hK, hR, hG => by
    have e : chain x X (table b hs) n hN (k + 1) hK hR hG (ix2 r c) = chain x X (table b hs) n hN k (by omega) (by omega) (by omega) (ix2 r c)
      + blockAt (x (k + 1) hK) X (table b hs) (k + 1) n hR hG hN (ix2 r c) := rfl
    rw [e, chain_apply x n hRG hN r c xs lo hi hx0 hx1 hlo hhi k, blockAt_apply X b hs _ (k + 1) n hRG hR hG hN r c xs lo hi (hx0 _ hK) (hx1 _ hK) hlo hhi,
      Finset.sum_range_add _ (128 * (k + 1)) 128]
    rfl

end Chain

/-- The sum is the reference's product. -/
theorem sum_pairs {kh : Nat} (hG : kh = 8 * G) (x : Fin (2 * kh) → EReal) (c : IVec (Mat kh N) 8) (b : FVec Ideal (Mat G N) .fp8e4m3) (n : Fin N)
    (xs lo hi : Nat → EReal) (hx : ∀ (q : Nat) (hq : q < 2 * kh), x ⟨q, hq⟩ = xs q)
    (hlo : ∀ (q : Nat) (hq : q < kh), wlo hG c b ⟨q, hq⟩ n = lo q) (hhi : ∀ (q : Nat) (hq : q < kh), whi hG c b ⟨q, hq⟩ n = hi q) :
    dotVal hG x c b n = ∑ q ∈ Finset.range kh, pairs xs lo hi q := by
  rw [dotVal, ← Finset.sum_add_distrib, ← Fin.sum_univ_eq_sum_range]
  refine Finset.sum_congr rfl fun q _ => ?_
  rw [pairs, hx, hx, hlo q.val q.isLt, hhi q.val q.isLt]

theorem inputs_apply (x : FVec Ideal (Mat 12 K) .bf16) (k hK) (r : Fin 12) (c : Fin 256) :
    inputs x k hK (ix2 r c) = x (ix2 r ⟨256 * k + c.val, by have := c.isLt; omega⟩) := by
  unfold inputs
  rw [shapeCast_self, cut_apply]
  congr 2
  apply Fin.ext; dsimp only; omega

theorem acts_apply (x : FVec Ideal (Mat 12 K) .bf16) (k hK) (r : Fin 12) (c : Fin 256) :
    acts x k hK (ix2 r c) = x (ix2 r ⟨256 * k + c.val, by have := c.isLt; omega⟩) := by
  unfold acts
  rw [cut_apply]
  congr 2
  apply Fin.ext; dsimp only; omega

/-- The gated activation of two numbers. -/
def gated (g u : EReal) : EReal := g * Ideal.logistic g * u

/-- A group of activations: the product with the permutation matrix puts the even columns first. -/
theorem actPiece_apply (gs us : EReal) (x : FVec Ideal (Mat 12 K) .bf16) (P : FVec Ideal (Mat 256 256) .bf16)
    (X : IVec (Mat R N) 8) (b : FVec Ideal (Mat G N) .fp8e4m3) (X' : IVec (Mat R N) 8) (b' : FVec Ideal (Mat G N) .fp8e4m3) (hs) (n hN k hK hR hG)
    (hRG : R = 8 * G) (hk : R = 128 * k + 128) (r : Fin 12) (xs : Nat → EReal)
    (hx0 : ∀ k (hK : 256 * k + 256 ≤ K), ∀ p : Fin 128, x (ix2 r ⟨256 * k + p.val, by have := p.isLt; omega⟩) = xs (2 * (128 * k + p.val)))
    (hx1 : ∀ k (hK : 256 * k + 256 ≤ K), ∀ p : Fin 128, x (ix2 r ⟨256 * k + 128 + p.val, by have := p.isLt; omega⟩) = xs (2 * (128 * k + p.val) + 1))
    (hP : ∀ i j : Fin 256, P (ix2 i j) = if i.val = 2 * (j.val % 128) + j.val / 128 then 1 else 0)
    (j i : Fin 256) (hi : i.val = 2 * (j.val % 128) + j.val / 128) :
    actPiece gs us x P X (table b hs) X' (table b' hs) n hN k hK hR hG (ix2 r j)
      = gated (dotVal hRG (fun q => xs q.val) X b ⟨n + i.val, by have := i.isLt; omega⟩ * gs)
          (dotVal hRG (fun q => xs q.val) X' b' ⟨n + i.val, by have := i.isLt; omega⟩ * us) := by
  have val : ∀ (X : IVec (Mat R N) 8) (b : FVec Ideal (Mat G N) .fp8e4m3) (c : Fin 256),
      chain (inputs x) X (table b hs) n hN k hK hR hG (ix2 r c) = dotVal hRG (fun q => xs q.val) X b ⟨n + c.val, by have := c.isLt; omega⟩ := by
    intro X b c
    have hc := c.isLt
    obtain ⟨lo, hlo⟩ : ∃ lo : Nat → EReal, ∀ (q : Nat) (hq : q < R), wlo hRG X b ⟨q, hq⟩ ⟨n + c.val, by omega⟩ = lo q :=
      ⟨fun q => if h : q < R then wlo hRG X b ⟨q, h⟩ ⟨n + c.val, by omega⟩ else 0, fun q hq => by dsimp only; rw [dif_pos hq]⟩
    obtain ⟨hi, hhi⟩ : ∃ hi : Nat → EReal, ∀ (q : Nat) (hq : q < R), whi hRG X b ⟨q, hq⟩ ⟨n + c.val, by omega⟩ = hi q :=
      ⟨fun q => if h : q < R then whi hRG X b ⟨q, h⟩ ⟨n + c.val, by omega⟩ else 0, fun q hq => by dsimp only; rw [dif_pos hq]⟩
    have e₁ := chain_apply X b hs (inputs x) n hRG hN r c xs lo hi
      (fun k hK p => (inputs_apply x k hK r _).trans (hx0 k hK p))
      (fun k hK p => (inputs_apply x k hK r _).trans ((ix_congr x rfl (by dsimp only; omega)).trans (hx1 k hK p))) hlo hhi k hK hR hG
    have e₂ := sum_pairs hRG (fun q => xs q.val) X b ⟨n + c.val, by omega⟩ xs lo hi (fun _ _ => rfl) hlo hhi
    rw [e₁, e₂, ← hk]
  unfold actPiece
  rw [shapeCast_self, shapeCast_self, cut_self]
  refine (dot_apply _ P _ r j).trans ?_
  refine (congrArg (· + _) Ideal.ofBits_zero_f32).trans ?_
  rw [zero_add, Finset.sum_eq_single i]
  · rw [hP, if_pos hi, mul_one, ← val X b i, ← val X' b' i]
    rfl
  · intro i' _ hne
    rw [hP, if_neg (fun h => hne (Fin.ext (h.trans hi.symm))), mul_zero]
  · intro h; exact absurd (Finset.mem_univ i) h

theorem accPiece_apply (A : FVec Ideal (Mat 12 N) .f32) (x : FVec Ideal (Mat 12 K) .bf16) (X : IVec (Mat R N) 8) (b : FVec Ideal (Mat G N) .fp8e4m3) (hs)
    (n hN k hK hR hG) (hRG : R = 8 * G) (hk : R = 128 * k + 128) (r : Fin 12) (c : Fin 256) (xs lo hi : Nat → EReal)
    (hx0 : ∀ k (hK : 256 * k + 256 ≤ K), ∀ p : Fin 128, x (ix2 r ⟨256 * k + p.val, by have := p.isLt; omega⟩) = xs (2 * (128 * k + p.val)))
    (hx1 : ∀ k (hK : 256 * k + 256 ≤ K), ∀ p : Fin 128, x (ix2 r ⟨256 * k + 128 + p.val, by have := p.isLt; omega⟩) = xs (2 * (128 * k + p.val) + 1))
    (hlo : ∀ (q : Nat) (hq : q < R), wlo hRG X b ⟨q, hq⟩ ⟨n + c.val, by have := c.isLt; omega⟩ = lo q)
    (hhi : ∀ (q : Nat) (hq : q < R), whi hRG X b ⟨q, hq⟩ ⟨n + c.val, by have := c.isLt; omega⟩ = hi q) :
    accPiece A x X (table b hs) n hN k hK hR hG (ix2 r c)
      = A (ix2 r ⟨n + c.val, by have := c.isLt; omega⟩) + ∑ q ∈ Finset.range R, pairs xs lo hi q := by
  unfold accPiece
  rw [shapeCast_self]
  have e : ∀ (a b : FVec Ideal (Mat 12 256) .f32), addf a b (ix2 r c) = (a (ix2 r c) + b (ix2 r c) : EReal) := fun _ _ => rfl
  rw [e, cut_apply, chain_apply X b hs (acts x) n hRG hN r c xs lo hi
      (fun k hK p => by rw [acts_apply]; exact hx0 k hK p)
      (fun k hK p => by rw [acts_apply, ← hx1 k hK p]; congr 2; apply Fin.ext; dsimp only; omega)
      hlo hhi, hk]
  congr 3
  apply Fin.ext; dsimp only; omega

end Cert.Mlp

end
-- ==== Proof.Step.lean ====
/-
  One grid step's values (Ideal): the activations the step stores and what it adds to the accumulator.
-/
module

public import proofs.«01_k».proof.Proof.Product
public import Idealize.ShloMosaic.Lib.WritesUnit
public import Idealize.ShloMosaic.Lib.VecWindow

@[expose] public section

noncomputable section

namespace Cert.Mlp

open Idealize.ShloMosaic

/-- Where the input at position `q` of the kernel's order stands: in each group of 256 the even positions come first. -/
def order (q : Nat) : Nat := 256 * (q / 256) + (2 * (q % 128) + q % 256 / 128)

/-- The gated activation of hidden column `c`. -/
def glu (gs us : EReal) (xr : Fin 2560 → EReal) (X : IVec (Mat 1280 768) 8) (b : FVec Ideal (Mat 160 768) .fp8e4m3) (X' : IVec (Mat 1280 768) 8)
    (b' : FVec Ideal (Mat 160 768) .fp8e4m3) (c : Fin 768) : EReal :=
  gated (dotVal (kh := 1280) (G := 160) rfl xr X b c * gs) (dotVal (kh := 1280) (G := 160) rfl xr X' b' c * us)

section Read

variable {sig : RefSig} {κ : Kind} {sp : Space}

/-- A list of stores of groups of 256 columns, read at column `c`: the group's store. -/
theorem read_actList {R G K W : Nat} (v : View sig κ sp (Mat 12 W) .bf16) (f) (gs us : EReal) (x : FVec Ideal (Mat 12 K) .bf16) (P : FVec Ideal (Mat 256 256) .bf16)
    (X : IVec (Mat R W) 8) (T : FVec Ideal (Mat G W) .bf16) (X' : IVec (Mat R W) 8) (T' : FVec Ideal (Mat G W) .bf16) (k hK hR hG) (r : Fin 12)
    (g : Nat) (j : Fin 256) (c : Fin W) (hc : c.val = 256 * g + j.val) :
    ∀ (cnt : Nat) (h : 256 * cnt ≤ W) (_ : g < cnt), v.read (Elt Ideal) (v.writes (Elt Ideal) f (actList (F := Ideal) gs us x P X T X' T' k hK hR hG cnt h)) (ix2 r c)
      = actPiece (F := Ideal) gs us x P X T X' T' (256 * g) (by omega) k hK hR hG (ix2 r j)
  | 0, _, hg => absurd hg (Nat.not_lt_zero g)
  | cnt + 1, h, hg => by
    have hj := j.isLt
    rw [actList]
    by_cases e : g = cnt
    · subst e
      refine View.read_writes_cons_unit_of_mem v f _ _ _ (ix2 r c) (ix2 r j) rfl fun a => ?_
      match a with
      | ⟨0, _⟩ => show r.val = 0 + r.val; omega
      | ⟨1, _⟩ => exact hc
    · refine (View.read_writes_cons_unit_of_not_mem v f _ _ _ (ix2 r c) rfl 1 (Or.inl ?_)).trans
        (read_actList v f gs us x P X T X' T' k hK hR hG r g j c hc cnt (by omega) (by omega))
      show c.val < 256 * cnt
      omega

theorem read_accList {R G K N : Nat} (v : View sig κ sp (Mat 12 N) .f32) (f) (A : FVec Ideal (Mat 12 N) .f32) (x : FVec Ideal (Mat 12 K) .bf16)
    (X : IVec (Mat R N) 8) (T : FVec Ideal (Mat G N) .bf16) (k hK hR hG) (r : Fin 12)
    (g : Nat) (j : Fin 256) (c : Fin N) (hc : c.val = 256 * g + j.val) :
    ∀ (cnt : Nat) (h : 256 * cnt ≤ N) (_ : g < cnt), v.read (Elt Ideal) (v.writes (Elt Ideal) f (accList (F := Ideal) A x X T k hK hR hG cnt h)) (ix2 r c)
      = accPiece (F := Ideal) A x X T (256 * g) (by omega) k hK hR hG (ix2 r j)
  | 0, _, hg => absurd hg (Nat.not_lt_zero g)
  | cnt + 1, h, hg => by
    have hj := j.isLt
    rw [accList]
    by_cases e : g = cnt
    · subst e
      refine View.read_writes_cons_unit_of_mem v f _ _ _ (ix2 r c) (ix2 r j) rfl fun a => ?_
      match a with
      | ⟨0, _⟩ => show r.val = 0 + r.val; omega
      | ⟨1, _⟩ => exact hc
    · refine (View.read_writes_cons_unit_of_not_mem v f _ _ _ (ix2 r c) rfl 1 (Or.inl ?_)).trans
        (read_accList v f A x X T k hK hR hG r g j c hc cnt (by omega) (by omega))
      show c.val < 256 * cnt
      omega

/-- The same at the first step: columns not yet stored hold zero. -/
theorem read_accListZ_rest {R G K N : Nat} (v : View sig κ sp (Mat 12 N) .f32) (f) (rd) (q) (x : FVec Ideal (Mat 12 K) .bf16)
    (X : IVec (Mat R N) 8) (T : FVec Ideal (Mat G N) .bf16) (k hK hR hG) (r : Fin 12) (c : Fin N) :
    ∀ (cnt : Nat) (h : 256 * cnt ≤ N) (_ : 256 * cnt ≤ c.val), v.read (Elt Ideal) (v.writes (Elt Ideal) f (accListZ (F := Ideal) rd q x X T k hK hR hG cnt h)) (ix2 r c)
      = (0 : EReal)
  | 0, _, _ => by
    rw [accListZ, shapeCast_self]
    refine (View.read_writes_cons_unit_of_mem v f _ _ _ (ix2 r c) (ix2 r c) rfl fun a => ?_).trans Ideal.ofBits_zero_f32
    match a with
    | ⟨0, _⟩ => show r.val = 0 + r.val; omega
    | ⟨1, _⟩ => show c.val = 0 + c.val; omega
  | cnt + 1, h, hc => by
    rw [accListZ]
    refine (View.read_writes_cons_unit_of_not_mem v f _ _ _ (ix2 r c) rfl 1 (Or.inr ?_)).trans
        (read_accListZ_rest v f rd q x X T k hK hR hG r c cnt (by omega) (by omega))
    show 256 * cnt + 256 ≤ c.val
    omega

theorem read_accListZ {R G K N : Nat} (v : View sig κ sp (Mat 12 N) .f32) (f) (rd) (q) (x : FVec Ideal (Mat 12 K) .bf16)
    (X : IVec (Mat R N) 8) (T : FVec Ideal (Mat G N) .bf16) (k hK hR hG) (r : Fin 12)
    (g : Nat) (j : Fin 256) (c : Fin N) (hc : c.val = 256 * g + j.val) :
    ∀ (cnt : Nat) (h : 256 * cnt ≤ N) (_ : g < cnt), v.read (Elt Ideal) (v.writes (Elt Ideal) f (accListZ (F := Ideal) rd q x X T k hK hR hG cnt h)) (ix2 r c)
      = accPiece (F := Ideal) (rd (accListZ (F := Ideal) rd q x X T k hK hR hG g (by omega))) x X T (256 * g) (by omega) k hK hR hG (ix2 r j)
  | 0, _, hg => absurd hg (Nat.not_lt_zero g)
  | cnt + 1, h, hg => by
    have hj := j.isLt
    rw [accListZ]
    by_cases e : g = cnt
    · subst e
      refine View.read_writes_cons_unit_of_mem v f _ _ _ (ix2 r c) (ix2 r j) rfl fun a => ?_
      match a with
      | ⟨0, _⟩ => show r.val = 0 + r.val; omega
      | ⟨1, _⟩ => exact hc
    · refine (View.read_writes_cons_unit_of_not_mem v f _ _ _ (ix2 r c) rfl 1 (Or.inl ?_)).trans
        (read_accListZ v f rd q x X T k hK hR hG r g j c hc cnt (by omega) (by omega))
      show c.val < 256 * cnt
      omega

/-- A function of positions below a bound, as one of all positions. -/
theorem extend {n : Nat} (a : Fin n → EReal) : ∃ e : Nat → EReal, ∀ (q : Nat) (hq : q < n), a ⟨q, hq⟩ = e q :=
  ⟨fun q => if h : q < n then a ⟨q, h⟩ else 0, fun q hq => by dsimp only; rw [dif_pos hq]⟩

/-- The activations a step stores, read back. -/
theorem act_step (v : View sig κ sp (Mat 12 768) .bf16) (f) (gs us : EReal) (x : FVec Ideal (Mat 12 2560) .bf16) (P : FVec Ideal (Mat 256 256) .bf16)
    (X : IVec (Mat 1280 768) 8) (b : FVec Ideal (Mat 160 768) .fp8e4m3) (X' : IVec (Mat 1280 768) 8) (b' : FVec Ideal (Mat 160 768) .fp8e4m3)
    (hs hs' hK hR hG h) (r : Fin 12) (xr : Fin 2560 → EReal) (hx : ∀ p q : Fin 2560, q.val = order p.val → x (ix2 r p) = xr q)
    (hP : ∀ i j : Fin 256, P (ix2 i j) = if i.val = 2 * (j.val % 128) + j.val / 128 then 1 else 0)
    (p c : Fin 768) (hc : c.val = order p.val) :
    v.read (Elt Ideal) (v.writes (Elt Ideal) f (actList (F := Ideal) gs us x P X (table b hs) X' (table b' hs') 9 hK hR hG 3 h)) (ix2 r p)
      = glu gs us xr X b X' b' c := by
  have hp := p.isLt
  have hpc := hc
  unfold order at hpc
  obtain ⟨xs, hxs⟩ := extend xr
  have e : (fun q : Fin (2 * 1280) => xs q.val) = xr := funext fun q => (hxs q.val q.isLt).symm
  rw [read_actList v f gs us x P X _ X' _ 9 hK hR hG r (p.val / 256) ⟨p.val % 256, by omega⟩ p (by dsimp only; omega) 3 h (by omega),
    actPiece_apply gs us x P X b X' b' hs _ _ 9 hK hR hG rfl rfl r xs ?_ ?_ hP _ ⟨c.val - 256 * (p.val / 256), by omega⟩ (by dsimp only; omega), e, glu]
  · have ec : (⟨256 * (p.val / 256) + (c.val - 256 * (p.val / 256)), by omega⟩ : Fin 768) = c := Fin.ext (by dsimp only; omega)
    dsimp only
    rw [ec]
  · intro k hK p
    have hp := p.isLt
    rw [← hxs (2 * (128 * k + p.val)) (by omega)]
    exact hx _ _ (by dsimp only; unfold order; omega)
  · intro k hK p
    have hp := p.isLt
    rw [← hxs (2 * (128 * k + p.val) + 1) (by omega)]
    exact hx _ _ (by dsimp only; unfold order; omega)

/-- What a step adds to a column of the accumulator: the down product of its activations. -/
theorem acc_add (A : FVec Ideal (Mat 12 2560) .f32) (x : FVec Ideal (Mat 12 768) .bf16) (Y : IVec (Mat 384 2560) 8) (d : FVec Ideal (Mat 48 2560) .fp8e4m3)
    (hs n hN hK hR hG) (r : Fin 12) (a : Fin 768 → EReal) (hx : ∀ p q : Fin 768, q.val = order p.val → x (ix2 r p) = a q) (j : Fin 256)
    (c : Fin 2560) (hc : c.val = n + j.val) :
    accPiece (F := Ideal) A x Y (table d hs) n hN 2 hK hR hG (ix2 r j) = A (ix2 r c) + dotVal (kh := 384) (G := 48) rfl a Y d c := by
  obtain ⟨xs, hxs⟩ := extend a
  obtain ⟨lo, hlo⟩ := extend fun q => wlo (kh := 384) (G := 48) rfl Y d q c
  obtain ⟨hi, hhi⟩ := extend fun q => whi (kh := 384) (G := 48) rfl Y d q c
  have ec : (⟨n + j.val, by have := j.isLt; omega⟩ : Fin 2560) = c := Fin.ext hc.symm
  rw [sum_pairs (kh := 384) (G := 48) rfl a Y d c xs lo hi hxs hlo hhi,
    accPiece_apply A x Y d hs n hN 2 hK hR hG rfl rfl r j xs lo hi ?_ ?_ (fun q hq => by rw [ec]; exact hlo q hq) (fun q hq => by rw [ec]; exact hhi q hq), ec]
  · intro k hK p
    have hp := p.isLt
    rw [← hxs (2 * (128 * k + p.val)) (by omega)]
    exact hx _ _ (by dsimp only; unfold order; omega)
  · intro k hK p
    have hp := p.isLt
    rw [← hxs (2 * (128 * k + p.val) + 1) (by omega)]
    exact hx _ _ (by dsimp only; unfold order; omega)

/-- The accumulator after a step, and after the first step. -/
theorem acc_step (v : View sig κ sp (Mat 12 2560) .f32) (f) (A : FVec Ideal (Mat 12 2560) .f32) (x : FVec Ideal (Mat 12 768) .bf16) (Y : IVec (Mat 384 2560) 8)
    (d : FVec Ideal (Mat 48 2560) .fp8e4m3) (hs hK hR hG h) (r : Fin 12) (a : Fin 768 → EReal)
    (hx : ∀ p q : Fin 768, q.val = order p.val → x (ix2 r p) = a q) (c : Fin 2560) :
    v.read (Elt Ideal) (v.writes (Elt Ideal) f (accList (F := Ideal) A x Y (table d hs) 2 hK hR hG 10 h)) (ix2 r c)
      = A (ix2 r c) + dotVal (kh := 384) (G := 48) rfl a Y d c := by
  have hc := c.isLt
  rw [read_accList v f A x Y _ 2 hK hR hG r (c.val / 256) ⟨c.val % 256, by omega⟩ c (by dsimp only; omega) 10 h (by omega)]
  exact acc_add A x Y d hs _ _ hK hR hG r a hx _ c (by dsimp only; omega)

theorem acc_first {sig' : RefSig} {κ' : Kind} {sp' : Space} (v : View sig κ sp (Mat 12 2560) .f32) (f) (v' : View sig' κ' sp' (Mat 12 2560) .f32) (f') (q) (x : FVec Ideal (Mat 12 768) .bf16) (Y : IVec (Mat 384 2560) 8)
    (d : FVec Ideal (Mat 48 2560) .fp8e4m3) (hs hK hR hG h) (r : Fin 12) (a : Fin 768 → EReal)
    (hx : ∀ p q : Fin 768, q.val = order p.val → x (ix2 r p) = a q) (c : Fin 2560) :
    v.read (Elt Ideal) (v.writes (Elt Ideal) f (accListZ (F := Ideal) (fun L => v'.read (Elt Ideal) (v'.writes (Elt Ideal) f' L)) q x Y (table d hs) 2 hK hR hG 10 h)) (ix2 r c)
      = dotVal (kh := 384) (G := 48) rfl a Y d c := by
  have hc := c.isLt
  rw [read_accListZ v f _ q x Y _ 2 hK hR hG r (c.val / 256) ⟨c.val % 256, by omega⟩ c (by dsimp only; omega) 10 h (by omega),
    acc_add _ x Y d hs _ _ hK hR hG r a hx _ c (by dsimp only; omega),
    read_accListZ_rest v' f' _ q x Y _ 2 hK hR hG r c (c.val / 256) (by omega) (by omega), zero_add]

end Read

end Cert.Mlp

end
-- ==== Proof.Host.lean ====
/-
  What the kernel's windows hold at a step, in terms of the arguments: the host's arrays (normalized rows, permutation, scales)
  and each step's slices of the weights.
-/
module

public import proofs.«01_k».proof.Proof.Gen.KernelIdeal.Frame.Runs
public import proofs.«01_k».proof.Proof.Norm
public import proofs.«01_k».proof.Proof.Step
public import Idealize.ShloMosaic.Lib.Claim
public import Idealize.ShloMosaic.Lib.StableHlo.ReadAt
public import Idealize.ShloMosaic.Lib.Pipeline.ValueKit
public import Idealize.ShloMosaic.Lib.Tactic.WordOmega

@[expose] public section

noncomputable section

namespace Cert.KernelIdeal.MlpHost

open Idealize.ShloMosaic Idealize.ShloMosaic.TcCoe Cert.KernelIdeal Cert.KernelIdeal.Gen Cert.Mlp

variable {F : FTy → Type} [FloatOps F]
variable (m : (ℓ : Loc nD τ sig) → Buf (Elt F) ℓ)

/-- The kernel's normalized rows: `normed`, the entries reordered within each group of 256. -/
theorem kernel_normed (c : Dev nD) :
    V m c main_v31 = shapeCast S12x2560 (transpose S12x10x2x128 [0, 1, 3, 2] (shapeCast S12x10x128x2
        (normed (m ((c : Thread nD τ).loc main_arg0)) (m ((c : Thread nD τ).loc main_arg1))) shapeCasts_S12x2560_S12x10x128x2)
      transposes_S12x10x128x2_S12x10x2x128_0_1_3_2) shapeCasts_S12x10x2x128_S12x2560 := by
  entry_read
  rfl

/-- The scales, one after the other. -/
theorem scales (c : Dev nD) :
    V m c main_v32 = concatenate S3 0 [⟨S1, m ((c : Thread nD τ).loc main_arg4)⟩, ⟨S1, m ((c : Thread nD τ).loc main_arg7)⟩,
      ⟨S1, m ((c : Thread nD τ).loc main_arg10)⟩] concatenates_S1_S1_S1_S3_d0 := by
  entry_read
  rfl

/-- The permutation matrix. -/
theorem perm_at (mI : (ℓ : Loc nD τ sig) → Buf (Elt Ideal) ℓ) (c : Dev nD) (i j : Fin 256) :
    V mI c main_v13 (ix2 i j) = if i.val = 2 * (j.val % 128) + j.val / 128 then (1 : EReal) else 0 := by
  unfold V
  after_reads_at
  refine (congrArg (fun w => FloatOps.uitofp (F := Ideal) .bf16 (IntOp.cmpi .eq (BitVec.ofNat 32 i.val) w))
    (?_ : _ = BitVec.ofNat 32 (2 * (j.val % 128) + j.val / 128))).trans ?_
  · revert j
    decide +kernel
  · have hi := i.isLt
    have hj := j.isLt
    by_cases e : i.val = 2 * (j.val % 128) + j.val / 128
    · rw [if_pos e, e]
      show (((BitVec.ofBool (decide (BitVec.ofNat 32 _ = BitVec.ofNat 32 _))).toNat : ℝ) : EReal) = 1
      simp
    · have ne : ¬ BitVec.ofNat 32 i.val = BitVec.ofNat 32 (2 * (j.val % 128) + j.val / 128) := fun h => e (by
        have := congrArg BitVec.toNat h
        simp only [BitVec.toNat_ofNat] at this
        omega)
      rw [if_neg e]
      show (((BitVec.ofBool (decide (BitVec.ofNat 32 _ = BitVec.ofNat 32 _))).toNat : ℝ) : EReal) = 0
      simp [ne]

/-- The reordering at an entry. -/
theorem order_at (x : FVec F S12x2560 .bf16) (r : Fin 12) (p q : Fin 2560) (hq : q.val = order p.val) :
    shapeCast S12x2560 (transpose S12x10x2x128 [0, 1, 3, 2] (shapeCast S12x10x128x2 x shapeCasts_S12x2560_S12x10x128x2)
      transposes_S12x10x128x2_S12x10x2x128_0_1_3_2) shapeCasts_S12x10x2x128_S12x2560 (ix2 r p) = x (ix2 r q) := by
  pointwise
  refine congrArg (fun k => x (ix2 r k)) (Fin.ext ?_)
  rw [hq, order]
  show p.val / 256 * 256 + p.val % 128 * 2 + p.val / 128 % 2 = _
  omega

/-! The three scales, at their places. -/

theorem scale0 (c : Dev nD) : V m c main_v32 (ix1 0) = m ((c : Thread nD τ).loc main_arg4) (ix1 0) := by
  rw [scales]
  pointwise
theorem scale1 (c : Dev nD) : V m c main_v32 (ix1 1) = m ((c : Thread nD τ).loc main_arg7) (ix1 0) := by
  rw [scales]
  pointwise
theorem scale2 (c : Dev nD) : V m c main_v32 (ix1 2) = m ((c : Thread nD τ).loc main_arg10) (ix1 0) := by
  rw [scales]
  pointwise

/-! The windows of a step: the whole of the small arrays, 768 columns of the gate's and the up weights, 384 rows of the down weights. -/

theorem place0 : ∀ (t : Fin cfg0.N) a, win0_0.index t a = 0 := by decide +kernel
theorem place1 : ∀ (t : Fin cfg0.N) a, win0_1.index t a = 0 := by decide +kernel
theorem place2 : ∀ (t : Fin cfg0.N) a, win0_2.index t a = 0 := by decide +kernel
theorem place3 : ∀ (t : Fin cfg0.N) a, win0_3.index t a = 0 := by decide +kernel
theorem place4 : ∀ t : Fin cfg0.N, win0_4.index t 0 = 0 ∧ win0_4.index t 1 = t.val := by decide +kernel
theorem place5 : ∀ t : Fin cfg0.N, win0_5.index t 0 = 0 ∧ win0_5.index t 1 = t.val := by decide +kernel
theorem place6 : ∀ t : Fin cfg0.N, win0_6.index t 0 = 0 ∧ win0_6.index t 1 = t.val := by decide +kernel
theorem place7 : ∀ t : Fin cfg0.N, win0_7.index t 0 = 0 ∧ win0_7.index t 1 = t.val := by decide +kernel
theorem place8 : ∀ t : Fin cfg0.N, win0_8.index t 0 = t.val ∧ win0_8.index t 1 = 0 := by decide +kernel
theorem place9 : ∀ t : Fin cfg0.N, win0_9.index t 0 = t.val ∧ win0_9.index t 1 = 0 := by decide +kernel

theorem points (t : Fin cfg0.N) : t.val < 9 := lt_of_lt_of_eq t.isLt N_0

variable (c : Dev nD) (t : Fin cfg0.N)

theorem block0 : iblk m c 0 t = V m c main_v32 := funext fun y => by blk_ext [iblk, place0 t]
theorem block1 : iblk m c 1 t = V m c main_v31 := funext fun y => by blk_ext [iblk, place1 t]
theorem block2 : iblk m c 2 t = m ((c : Thread nD τ).loc main_arg0) := funext fun y => by blk_ext [iblk, V, place2 t]
theorem block3 : iblk m c 3 t = V m c main_v13 := funext fun y => by blk_ext [iblk, place3 t]
theorem block4 (k : Fin 1280) (n : Fin 768) :
    iblk m c 4 t (ix2 k n) = m ((c : Thread nD τ).loc main_arg2) (ix2 k ⟨768 * t.val + n.val, by have := points t; omega⟩) := by
  blk_ext [iblk, V, (place4 t).1, (place4 t).2]
theorem block5 (g : Fin 160) (n : Fin 768) :
    iblk m c 5 t (ix2 g n) = m ((c : Thread nD τ).loc main_arg3) (ix2 g ⟨768 * t.val + n.val, by have := points t; omega⟩) := by
  blk_ext [iblk, V, (place5 t).1, (place5 t).2]
theorem block6 (k : Fin 1280) (n : Fin 768) :
    iblk m c 6 t (ix2 k n) = m ((c : Thread nD τ).loc main_arg5) (ix2 k ⟨768 * t.val + n.val, by have := points t; omega⟩) := by
  blk_ext [iblk, V, (place6 t).1, (place6 t).2]
theorem block7 (g : Fin 160) (n : Fin 768) :
    iblk m c 7 t (ix2 g n) = m ((c : Thread nD τ).loc main_arg6) (ix2 g ⟨768 * t.val + n.val, by have := points t; omega⟩) := by
  blk_ext [iblk, V, (place7 t).1, (place7 t).2]
theorem block8 (k : Fin 384) (n : Fin 2560) :
    iblk m c 8 t (ix2 k n) = m ((c : Thread nD τ).loc main_arg8) (ix2 ⟨384 * t.val + k.val, by have := points t; omega⟩ n) := by
  blk_ext [iblk, V, (place8 t).1, (place8 t).2]
theorem block9 (g : Fin 48) (n : Fin 2560) :
    iblk m c 9 t (ix2 g n) = m ((c : Thread nD τ).loc main_arg9) (ix2 ⟨48 * t.val + g.val, by have := points t; omega⟩ n) := by
  blk_ext [iblk, V, (place9 t).1, (place9 t).2]

end Cert.KernelIdeal.MlpHost

end
-- ==== Proof.Sums.lean ====
/-
  The whole block from its nine steps: a step's gated activations are the whole's at its columns (`glu_block`), and the sums of
  the steps' down products make the whole down product (`down_block`, `fold_sum`, `sum_blocks`).
-/
module

public import proofs.«01_k».proof.Proof.Step
public import Idealize.ShloMosaic.Lib.Pipeline.Value

@[expose] public section

noncomputable section

namespace Cert.Mlp

open Idealize.ShloMosaic
open scoped BigOperators

/-- The gated activation of hidden column `q`, over the whole weights. -/
def hidden (gs us : EReal) (xr : Fin 2560 → EReal) (X : IVec (Mat 1280 6912) 8) (b : FVec Ideal (Mat 160 6912) .fp8e4m3) (X' : IVec (Mat 1280 6912) 8)
    (b' : FVec Ideal (Mat 160 6912) .fp8e4m3) (q : Fin 6912) : EReal :=
  gated (dotVal (kh := 1280) (G := 160) rfl xr X b q * gs) (dotVal (kh := 1280) (G := 160) rfl xr X' b' q * us)

/-- The block's result at one row and column `n`: `h` the row's own entry there, `xr` its normalized row. -/
def mlpAt (h gs us ds : EReal) (xr : Fin 2560 → EReal) (X : IVec (Mat 1280 6912) 8) (b : FVec Ideal (Mat 160 6912) .fp8e4m3) (X' : IVec (Mat 1280 6912) 8)
    (b' : FVec Ideal (Mat 160 6912) .fp8e4m3) (Y : IVec (Mat 3456 2560) 8) (d : FVec Ideal (Mat 432 2560) .fp8e4m3) (n : Fin 2560) : EReal :=
  h + dotVal (kh := 3456) (G := 432) rfl (hidden gs us xr X b X' b') Y d n * ds

/-- A column of products is that of a slice of the weights that holds it. -/
theorem dotVal_column {kh G N N' : Nat} (hG : kh = 8 * G) (x : Fin (2 * kh) → EReal) (c : IVec (Mat kh N) 8) (b : FVec Ideal (Mat G N) .fp8e4m3)
    (c' : IVec (Mat kh N') 8) (b' : FVec Ideal (Mat G N') .fp8e4m3) (n : Fin N) (n' : Fin N') (hc : ∀ k, c (ix2 k n) = c' (ix2 k n'))
    (hb : ∀ g, b (ix2 g n) = b' (ix2 g n')) : dotVal hG x c b n = dotVal hG x c' b' n' := by
  simp only [dotVal, wlo, whi, hc, hb]

section Blocks

variable (t : Nat) (ht : t < 9)
include ht

theorem glu_block (gs us : EReal) (xr : Fin 2560 → EReal) (X : IVec (Mat 1280 6912) 8) (b : FVec Ideal (Mat 160 6912) .fp8e4m3) (X' : IVec (Mat 1280 6912) 8)
    (b' : FVec Ideal (Mat 160 6912) .fp8e4m3) (Z : IVec (Mat 1280 768) 8) (s : FVec Ideal (Mat 160 768) .fp8e4m3) (Z' : IVec (Mat 1280 768) 8)
    (s' : FVec Ideal (Mat 160 768) .fp8e4m3)
    (hZ : ∀ (k : Fin 1280) (c : Fin 768), Z (ix2 k c) = X (ix2 k ⟨768 * t + c.val, by omega⟩))
    (hs : ∀ (g : Fin 160) (c : Fin 768), s (ix2 g c) = b (ix2 g ⟨768 * t + c.val, by omega⟩))
    (hZ' : ∀ (k : Fin 1280) (c : Fin 768), Z' (ix2 k c) = X' (ix2 k ⟨768 * t + c.val, by omega⟩))
    (hs' : ∀ (g : Fin 160) (c : Fin 768), s' (ix2 g c) = b' (ix2 g ⟨768 * t + c.val, by omega⟩)) (c : Fin 768) :
    glu gs us xr Z s Z' s' c = hidden gs us xr X b X' b' ⟨768 * t + c.val, by omega⟩ := by
  unfold glu hidden
  rw [dotVal_column rfl xr Z s X b c ⟨768 * t + c.val, by omega⟩ (fun k => hZ k c) (fun g => hs g c),
    dotVal_column rfl xr Z' s' X' b' c ⟨768 * t + c.val, by omega⟩ (fun k => hZ' k c) (fun g => hs' g c)]

/-- A step's down product is its part of the whole sum. -/
theorem down_block (a : Fin 6912 → EReal) (Y : IVec (Mat 3456 2560) 8) (d : FVec Ideal (Mat 432 2560) .fp8e4m3) (n : Fin 2560)
    (a' : Fin 768 → EReal) (Z : IVec (Mat 384 2560) 8) (s : FVec Ideal (Mat 48 2560) .fp8e4m3)
    (ha : ∀ c : Fin 768, a' c = a ⟨768 * t + c.val, by omega⟩)
    (hZ : ∀ k : Fin 384, Z (ix2 k n) = Y (ix2 ⟨384 * t + k.val, by omega⟩ n))
    (hs : ∀ g : Fin 48, s (ix2 g n) = d (ix2 ⟨48 * t + g.val, by omega⟩ n))
    (xs lo hi : Nat → EReal) (hxs : ∀ (q : Nat) (hq : q < 6912), a ⟨q, hq⟩ = xs q)
    (hlo : ∀ (q : Nat) (hq : q < 3456), wlo (kh := 3456) (G := 432) rfl Y d ⟨q, hq⟩ n = lo q)
    (hhi : ∀ (q : Nat) (hq : q < 3456), whi (kh := 3456) (G := 432) rfl Y d ⟨q, hq⟩ n = hi q) :
    dotVal (kh := 384) (G := 48) rfl a' Z s n = ∑ q ∈ Finset.range 384, pairs xs lo hi (384 * t + q) := by
  have row : ∀ (q : Nat) (hq : q < 384), (⟨48 * t + q / 8, by omega⟩ : Fin 432) = ⟨(384 * t + q) / 8, by omega⟩ := fun q hq => Fin.ext (by dsimp only; omega)
  rw [sum_pairs (kh := 384) (G := 48) rfl a' Z s n (fun q => xs (768 * t + q)) (fun q => lo (384 * t + q)) (fun q => hi (384 * t + q))
    (fun q hq => by rw [ha, hxs]) (fun q hq => by rw [← hlo _ (by omega), wlo, wlo, hZ, hs, row q hq])
    (fun q hq => by rw [← hhi _ (by omega), whi, whi, hZ, hs, row q hq])]
  refine Finset.sum_congr rfl fun q _ => ?_
  rw [pairs, pairs, show 768 * t + 2 * q = 2 * (384 * t + q) by omega, show 768 * t + (2 * q + 1) = 2 * (384 * t + q) + 1 by omega]

end Blocks

/-- A quantity that starts at `P 0` and grows by `P j` at step `j` is the sum. -/
theorem fold_sum {α : Type} {N : Nat} (a : (n : Nat) → n < N → α) (g : (n : Nat) → n < N → α → α) (v : α → EReal) (P : Nat → EReal) (B : Nat)
    (h0 : ∀ h, v (a 0 h) = P 0) (hs : ∀ j h x, j ≠ 0 → j < B → v (g j h x) = v x + P j) :
    ∀ (j : Nat) (h : 0 + j < N), j < B → v (Pipeline.accAt a g 0 j h) = ∑ i ∈ Finset.range (j + 1), P i
  | 0, h, _ => by rw [Pipeline.accAt_zero, h0, Finset.sum_range_one]
  | j + 1, h, hj => by
    rw [Pipeline.accAt_succ, hs _ _ _ (by omega) (by omega), fold_sum a g v P B h0 hs j _ (by omega), Finset.sum_range_succ _ (j + 1), Nat.zero_add]

/-- Sums over consecutive blocks make the sum over all. -/
theorem sum_blocks (f : Nat → EReal) (w : Nat) : ∀ T : Nat,
    ∑ i ∈ Finset.range T, ∑ q ∈ Finset.range w, f (w * i + q) = ∑ q ∈ Finset.range (w * T), f q
  | 0 => by simp
  | T + 1 => by rw [Finset.sum_range_succ, sum_blocks f w T, Nat.mul_succ, Finset.sum_range_add]

end Cert.Mlp

end
-- ==== Proof.Lists.lean ====
/-
  A grid step's values from its lists of stores: the scale tables, then the activations, then the accumulator.
-/
module

public import proofs.«01_k».proof.Proof.Step
public import proofs.«01_k».proof.Proof.Gen.KernelIdeal.Skeleton

@[expose] public section

set_option maxRecDepth 20000

noncomputable section

namespace Cert.Mlp

open Idealize.ShloMosaic Cert.KernelIdeal Cert.KernelIdeal.Gen

theorem scalar_at (x : Vec Ideal S3 .f32) : (∀ h, x ((Rect.unit (s := S3) ![0] S1.size inb_S3_S1_0).idx (Shape.Idx.first h)) = x (ix1 0))
    ∧ (∀ h, x ((Rect.unit (s := S3) ![1] S1.size inb_S3_S1_1).idx (Shape.Idx.first h)) = x (ix1 1))
    ∧ ∀ h, x ((Rect.unit (s := S3) ![2] S1.size inb_S3_S1_2).idx (Shape.Idx.first h)) = x (ix1 2) := by
  refine ⟨fun h => congrArg x ?_, fun h => congrArg x ?_, fun h => congrArg x ?_⟩ <;>
  · funext a
    match a with
    | ⟨0, _⟩ => rfl

theorem acts_of
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (L12 : List (View.Piece (Elt Ideal) (Mat 160 768) .bf16)) (L13 : List (View.Piece (Elt Ideal) (Mat 160 768) .bf16)) (L15 : List (View.Piece (Elt Ideal) (Mat 12 768) .bf16))
    (hg : L12 = [⟨Rect.unit (s := Mat 160 768) ![0, 0] (Mat 160 768).size (by decide), table (F := Ideal) (cut (arg6.view.read (Elt Ideal) (harg6.unread x5)) 160 768 0 0 (by decide) (by decide)) (by decide)⟩])
    (hu : L13 = [⟨Rect.unit (s := Mat 160 768) ![0, 0] (Mat 160 768).size (by decide), table (F := Ideal) (cut (arg8.view.read (Elt Ideal) (harg8.unread x7)) 160 768 0 0 (by decide) (by decide)) (by decide)⟩])
    (ha : L15 = actList (F := Ideal) (arg1.view.read (Elt Ideal) (harg1.unread x0) ((Rect.unit (s := S3) ![0] S1.size inb_S3_S1_0).idx (Shape.Idx.first (by decide)))) (arg1.view.read (Elt Ideal) (harg1.unread x0) ((Rect.unit (s := S3) ![1] S1.size inb_S3_S1_1).idx (Shape.Idx.first (by decide))))
      (arg2.view.read (Elt Ideal) (harg2.unread x1)) (arg4.view.read (Elt Ideal) (harg4.unread x3))
      (arg5.view.read (Elt Ideal) (harg5.unread x4)) (arg12.view.read (Elt Ideal) (arg12.view.writes (Elt Ideal) arg12.view.junk L12))
      (arg7.view.read (Elt Ideal) (harg7.unread x6)) (arg13.view.read (Elt Ideal) (arg13.view.writes (Elt Ideal) arg13.view.junk L13)) 9 (by decide) (by decide) (by decide) 3 (by decide))
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (p q : Fin 768) (hq : q.val = order p.val) :
    arg15.view.read (Elt Ideal) (arg15.view.writes (Elt Ideal) arg15.view.junk L15) (ix2 r p) = glu (x0 (ix1 0)) (x0 (ix1 1)) xr x4 x5 x6 x7 q := by
  rw [ha, hg, hu, View.read_writes_full, View.read_writes_full, harg6.read_unread, harg8.read_unread, cut_self, cut_self, harg1.read_unread,
    harg2.read_unread, harg4.read_unread, harg5.read_unread, harg7.read_unread, (scalar_at x0).1, (scalar_at x0).2.1]
  exact act_step arg15.view _ _ _ x1 x3 x4 x5 x6 x7 _ _ _ _ _ _ r xr hx hP p q hq

theorem step_of
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (L12 : List (View.Piece (Elt Ideal) (Mat 160 768) .bf16)) (L13 : List (View.Piece (Elt Ideal) (Mat 160 768) .bf16)) (L15 : List (View.Piece (Elt Ideal) (Mat 12 768) .bf16)) (L14 : List (View.Piece (Elt Ideal) (Mat 48 2560) .bf16)) (L16 : List (View.Piece (Elt Ideal) (Mat 12 2560) .f32))
    (hg : L12 = [⟨Rect.unit (s := Mat 160 768) ![0, 0] (Mat 160 768).size (by decide), table (F := Ideal) (cut (arg6.view.read (Elt Ideal) (harg6.unread x5)) 160 768 0 0 (by decide) (by decide)) (by decide)⟩])
    (hu : L13 = [⟨Rect.unit (s := Mat 160 768) ![0, 0] (Mat 160 768).size (by decide), table (F := Ideal) (cut (arg8.view.read (Elt Ideal) (harg8.unread x7)) 160 768 0 0 (by decide) (by decide)) (by decide)⟩])
    (ha : L15 = actList (F := Ideal) (arg1.view.read (Elt Ideal) (harg1.unread x0) ((Rect.unit (s := S3) ![0] S1.size inb_S3_S1_0).idx (Shape.Idx.first (by decide)))) (arg1.view.read (Elt Ideal) (harg1.unread x0) ((Rect.unit (s := S3) ![1] S1.size inb_S3_S1_1).idx (Shape.Idx.first (by decide))))
      (arg2.view.read (Elt Ideal) (harg2.unread x1)) (arg4.view.read (Elt Ideal) (harg4.unread x3))
      (arg5.view.read (Elt Ideal) (harg5.unread x4)) (arg12.view.read (Elt Ideal) (arg12.view.writes (Elt Ideal) arg12.view.junk L12))
      (arg7.view.read (Elt Ideal) (harg7.unread x6)) (arg13.view.read (Elt Ideal) (arg13.view.writes (Elt Ideal) arg13.view.junk L13)) 9 (by decide) (by decide) (by decide) 3 (by decide))
    (hd : L14 = [⟨Rect.unit (s := Mat 48 2560) ![0, 0] (Mat 48 2560).size (by decide), table (F := Ideal) (cut (arg10.view.read (Elt Ideal) (harg10.unread x9)) 48 2560 0 0 (by decide) (by decide)) (by decide)⟩])
    (hc : L16 = accList (F := Ideal) (arg16.view.read (Elt Ideal) (harg16.unread xs4)) (arg15.view.read (Elt Ideal) (arg15.view.writes (Elt Ideal) arg15.view.junk L15))
      (arg9.view.read (Elt Ideal) (harg9.unread x8)) (arg14.view.read (Elt Ideal) (arg14.view.writes (Elt Ideal) arg14.view.junk L14)) 2 (by decide) (by decide) (by decide) 10 (by decide))
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560)
    {sp' : Space} (v : View sig Kind.tc sp' (Mat 12 2560) .f32) :
    v.read (Elt Ideal) (v.writes (Elt Ideal) v.junk L16) (ix2 r n) = xs4 (ix2 r n) + dotVal (kh := 384) (G := 48) rfl (glu (x0 (ix1 0)) (x0 (ix1 1)) xr x4 x5 x6 x7) x8 x9 n := by
  have ea := acts_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 L12 L13 L15 hg hu ha r xr hx hP
  rw [hc, hd, View.read_writes_full, harg10.read_unread, cut_self, harg9.read_unread, harg16.read_unread]
  exact acc_step v _ xs4 _ x8 x9 _ _ _ _ _ r _ ea n

theorem first_of
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (L12 : List (View.Piece (Elt Ideal) (Mat 160 768) .bf16)) (L13 : List (View.Piece (Elt Ideal) (Mat 160 768) .bf16)) (L15 : List (View.Piece (Elt Ideal) (Mat 12 768) .bf16)) (L14 : List (View.Piece (Elt Ideal) (Mat 48 2560) .bf16)) (L16 : List (View.Piece (Elt Ideal) (Mat 12 2560) .f32))
    (hg : L12 = [⟨Rect.unit (s := Mat 160 768) ![0, 0] (Mat 160 768).size (by decide), table (F := Ideal) (cut (arg6.view.read (Elt Ideal) (harg6.unread x5)) 160 768 0 0 (by decide) (by decide)) (by decide)⟩])
    (hu : L13 = [⟨Rect.unit (s := Mat 160 768) ![0, 0] (Mat 160 768).size (by decide), table (F := Ideal) (cut (arg8.view.read (Elt Ideal) (harg8.unread x7)) 160 768 0 0 (by decide) (by decide)) (by decide)⟩])
    (ha : L15 = actList (F := Ideal) (arg1.view.read (Elt Ideal) (harg1.unread x0) ((Rect.unit (s := S3) ![0] S1.size inb_S3_S1_0).idx (Shape.Idx.first (by decide)))) (arg1.view.read (Elt Ideal) (harg1.unread x0) ((Rect.unit (s := S3) ![1] S1.size inb_S3_S1_1).idx (Shape.Idx.first (by decide))))
      (arg2.view.read (Elt Ideal) (harg2.unread x1)) (arg4.view.read (Elt Ideal) (harg4.unread x3))
      (arg5.view.read (Elt Ideal) (harg5.unread x4)) (arg12.view.read (Elt Ideal) (arg12.view.writes (Elt Ideal) arg12.view.junk L12))
      (arg7.view.read (Elt Ideal) (harg7.unread x6)) (arg13.view.read (Elt Ideal) (arg13.view.writes (Elt Ideal) arg13.view.junk L13)) 9 (by decide) (by decide) (by decide) 3 (by decide))
    (hd : L14 = [⟨Rect.unit (s := Mat 48 2560) ![0, 0] (Mat 48 2560).size (by decide), table (F := Ideal) (cut (arg10.view.read (Elt Ideal) (harg10.unread x9)) 48 2560 0 0 (by decide) (by decide)) (by decide)⟩])
    (hc : L16 = accListZ (F := Ideal) (fun L => (arg16.view.read (Elt Ideal) (arg16.view.writes (Elt Ideal) arg16.view.junk L))) (by decide) (arg15.view.read (Elt Ideal) (arg15.view.writes (Elt Ideal) arg15.view.junk L15))
      (arg9.view.read (Elt Ideal) (harg9.unread x8)) (arg14.view.read (Elt Ideal) (arg14.view.writes (Elt Ideal) arg14.view.junk L14)) 2 (by decide) (by decide) (by decide) 10 (by decide))
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560)
    {sp' : Space} (v : View sig Kind.tc sp' (Mat 12 2560) .f32) :
    v.read (Elt Ideal) (v.writes (Elt Ideal) v.junk L16) (ix2 r n) = dotVal (kh := 384) (G := 48) rfl (glu (x0 (ix1 0)) (x0 (ix1 1)) xr x4 x5 x6 x7) x8 x9 n := by
  have ea := acts_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 L12 L13 L15 hg hu ha r xr hx hP
  rw [hc, hd, View.read_writes_full, harg10.read_unread, cut_self, harg9.read_unread]
  exact acc_first v _ arg16.view _ _ _ x8 x9 _ _ _ _ _ r _ ea n

theorem out_of
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (L12 : List (View.Piece (Elt Ideal) (Mat 160 768) .bf16)) (L13 : List (View.Piece (Elt Ideal) (Mat 160 768) .bf16)) (L15 : List (View.Piece (Elt Ideal) (Mat 12 768) .bf16)) (L14 : List (View.Piece (Elt Ideal) (Mat 48 2560) .bf16)) (L16 : List (View.Piece (Elt Ideal) (Mat 12 2560) .f32))
    (L11 : List (View.Piece (Elt Ideal) (Mat 12 2560) .bf16))
    (hg : L12 = [⟨Rect.unit (s := Mat 160 768) ![0, 0] (Mat 160 768).size (by decide), table (F := Ideal) (cut (arg6.view.read (Elt Ideal) (harg6.unread x5)) 160 768 0 0 (by decide) (by decide)) (by decide)⟩])
    (hu : L13 = [⟨Rect.unit (s := Mat 160 768) ![0, 0] (Mat 160 768).size (by decide), table (F := Ideal) (cut (arg8.view.read (Elt Ideal) (harg8.unread x7)) 160 768 0 0 (by decide) (by decide)) (by decide)⟩])
    (ha : L15 = actList (F := Ideal) (arg1.view.read (Elt Ideal) (harg1.unread x0) ((Rect.unit (s := S3) ![0] S1.size inb_S3_S1_0).idx (Shape.Idx.first (by decide)))) (arg1.view.read (Elt Ideal) (harg1.unread x0) ((Rect.unit (s := S3) ![1] S1.size inb_S3_S1_1).idx (Shape.Idx.first (by decide))))
      (arg2.view.read (Elt Ideal) (harg2.unread x1)) (arg4.view.read (Elt Ideal) (harg4.unread x3))
      (arg5.view.read (Elt Ideal) (harg5.unread x4)) (arg12.view.read (Elt Ideal) (arg12.view.writes (Elt Ideal) arg12.view.junk L12))
      (arg7.view.read (Elt Ideal) (harg7.unread x6)) (arg13.view.read (Elt Ideal) (arg13.view.writes (Elt Ideal) arg13.view.junk L13)) 9 (by decide) (by decide) (by decide) 3 (by decide))
    (hd : L14 = [⟨Rect.unit (s := Mat 48 2560) ![0, 0] (Mat 48 2560).size (by decide), table (F := Ideal) (cut (arg10.view.read (Elt Ideal) (harg10.unread x9)) 48 2560 0 0 (by decide) (by decide)) (by decide)⟩])
    (hc : L16 = accList (F := Ideal) (arg16.view.read (Elt Ideal) (harg16.unread xs4)) (arg15.view.read (Elt Ideal) (arg15.view.writes (Elt Ideal) arg15.view.junk L15))
      (arg9.view.read (Elt Ideal) (harg9.unread x8)) (arg14.view.read (Elt Ideal) (arg14.view.writes (Elt Ideal) arg14.view.junk L14)) 2 (by decide) (by decide) (by decide) 10 (by decide))
    (ho : L11 = [⟨Rect.unit (s := Mat 12 2560) ![0, 0] (Mat 12 2560).size (by decide), outOf (F := Ideal) (cut (arg3.view.read (Elt Ideal) (harg3.unread x2)) 12 2560 0 0 (by decide) (by decide)) (cut (arg16.view.read (Elt Ideal) (arg16.view.writes (Elt Ideal) arg16.view.junk L16)) 12 2560 0 0 (by decide) (by decide)) (arg1.view.read (Elt Ideal) (harg1.unread x0) ((Rect.unit (s := S3) ![2] S1.size inb_S3_S1_2).idx (Shape.Idx.first (by decide)))) (by decide)⟩])
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560)
    {sp' : Space} (v : View sig Kind.tc sp' (Mat 12 2560) .bf16) :
    v.read (Elt Ideal) (v.writes (Elt Ideal) v.junk L11) (ix2 r n) = x2 (ix2 r n) + (xs4 (ix2 r n) + dotVal (kh := 384) (G := 48) rfl (glu (x0 (ix1 0)) (x0 (ix1 1)) xr x4 x5 x6 x7) x8 x9 n) * x0 (ix1 2) := by
  rw [ho, View.read_writes_full, harg3.read_unread, harg1.read_unread, cut_self, cut_self, (scalar_at x0).2.2]
  exact congrArg (fun z : EReal => x2 (ix2 r n) + z * x0 (ix1 2)) (step_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 L12 L13 L15 L14 L16 hg hu ha hd hc r xr hx hP n arg16.view)

end Cert.Mlp

end
-- ==== Proof.PiecesA.lean ====
/-
  The stores of one grid step (case A), as the groups of columns of Block.
-/
module

public import proofs.«01_k».proof.Proof.Block
public import proofs.«01_k».proof.Proof.Gen.KernelIdeal.Frame.RunA
import all proofs.«01_k».proof.Proof.Gen.KernelIdeal.Frame.RunA
public import Idealize.ShloMosaic.Lib.Tactic
public import Idealize.ShloMosaic.Lib.Pointwise

@[expose] public section

set_option maxHeartbeats 0
set_option maxRecDepth 20000
set_option pp.maxSteps 100

noncomputable section

namespace Cert.Mlp

open Idealize.ShloMosaic Cert.KernelIdeal Cert.KernelIdeal.Gen

variable {F : FTy → Type} [FloatOps F]

theorem gtabA (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.1 = [⟨Rect.unit (s := Mat 160 768) ![0, 0] (Mat 160 768).size (by decide), table (cut (arg6.view.read (Elt F) (harg6.unread x5)) 160 768 0 0 (by decide) (by decide)) (by decide)⟩] := by
  unfold kernelRun0_A
  dsimp only
  sl_unfold_words
  unfold_payloads
  unfold table cut
  rfl

theorem utabA (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.1 = [⟨Rect.unit (s := Mat 160 768) ![0, 0] (Mat 160 768).size (by decide), table (cut (arg8.view.read (Elt F) (harg8.unread x7)) 160 768 0 0 (by decide) (by decide)) (by decide)⟩] := by
  unfold kernelRun0_A
  dsimp only
  sl_unfold_words
  unfold_payloads
  unfold table cut
  rfl

theorem dtabA (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1 = [⟨Rect.unit (s := Mat 48 2560) ![0, 0] (Mat 48 2560).size (by decide), table (cut (arg10.view.read (Elt F) (harg10.unread x9)) 48 2560 0 0 (by decide) (by decide)) (by decide)⟩] := by
  unfold kernelRun0_A
  dsimp only
  sl_unfold_words
  unfold_payloads
  unfold table cut
  rfl

theorem actA (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1 = actList (F := F) (arg1.view.read (Elt F) (harg1.unread x0) ((Rect.unit (s := S3) ![0] S1.size inb_S3_S1_0).idx (Shape.Idx.first (by decide)))) (arg1.view.read (Elt F) (harg1.unread x0) ((Rect.unit (s := S3) ![1] S1.size inb_S3_S1_1).idx (Shape.Idx.first (by decide))))
      (arg2.view.read (Elt F) (harg2.unread x1)) (arg4.view.read (Elt F) (harg4.unread x3))
      (arg5.view.read (Elt F) (harg5.unread x4)) (arg12.view.read (Elt F) (arg12.view.writes (Elt F) arg12.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.1))
      (arg7.view.read (Elt F) (harg7.unread x6)) (arg13.view.read (Elt F) (arg13.view.writes (Elt F) arg13.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.1)) 9 (by decide) (by decide) (by decide) 3 (by decide) := by
  unfold kernelRun0_A
  dsimp only
  sl_unfold_words
  unfold_payloads
  simp only [actList, actPiece, chain]
  unfold blockAt inputs tileAt tile wide upper lower loRows hiRows words scaleRows top cut
  rfl

end Cert.Mlp

end
-- ==== Proof.AccA.lean ====
/-
  The accumulator's stores at the first grid step (case A), one group of 256 columns after another, as the groups of Block.
-/
module

public import proofs.«01_k».proof.Proof.Block
public import proofs.«01_k».proof.Proof.Gen.KernelIdeal.Frame.RunA
import all proofs.«01_k».proof.Proof.Gen.KernelIdeal.Frame.RunA
public import Idealize.ShloMosaic.Lib.Tactic
public import Idealize.ShloMosaic.Lib.Pointwise

@[expose] public section

set_option maxHeartbeats 0
set_option maxRecDepth 20000
set_option pp.maxSteps 100

noncomputable section

namespace Cert.Mlp

open Idealize.ShloMosaic Cert.KernelIdeal Cert.KernelIdeal.Gen

variable {F : FTy → Type} [FloatOps F]

theorem zeroed2 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_2 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 1 (by decide) := by
  simp only [accListZ]
  unfold kernelRun0_A kernelRun0_A.sl.HS4_2
  dsimp only
  sl_unfold_words
  unfold_payloads
  simp only [accPiece, chain]
  unfold blockAt acts tileAt tile wide upper lower loRows hiRows words scaleRows top cut
  rfl

theorem zeroed3 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_3 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 2 (by decide) := by
  rw [accListZ, ← zeroed2 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_3
  dsimp only
  unfold kernelRun0_A.sl.r_3051 kernelRun0_A.sl.r_3012 kernelRun0_A.sl.v22711 kernelRun0_A.sl.v21989 kernelRun0_A.sl.v22346 kernelRun0_A.sl.v22704
  generalize kernelRun0_A.sl.HS4_2 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed4 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_4 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 3 (by decide) := by
  rw [accListZ, ← zeroed3 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_4
  dsimp only
  unfold kernelRun0_A.sl.r_3186 kernelRun0_A.sl.r_3148 kernelRun0_A.sl.v23792 kernelRun0_A.sl.v21989 kernelRun0_A.sl.v22346 kernelRun0_A.sl.v22704
  generalize kernelRun0_A.sl.HS4_3 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed5 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_5 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 4 (by decide) := by
  rw [accListZ, ← zeroed4 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_5
  dsimp only
  unfold kernelRun0_A.sl.r_3329 kernelRun0_A.sl.r_3281 kernelRun0_A.sl.v24873 kernelRun0_A.sl.v21989 kernelRun0_A.sl.v22346 kernelRun0_A.sl.v22704
  generalize kernelRun0_A.sl.HS4_4 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed6 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_6 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 5 (by decide) := by
  rw [accListZ, ← zeroed5 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_6
  dsimp only
  unfold kernelRun0_A.sl.r_3481 kernelRun0_A.sl.r_3427 kernelRun0_A.sl.v25954 kernelRun0_A.sl.v21989 kernelRun0_A.sl.v22346 kernelRun0_A.sl.v22704
  generalize kernelRun0_A.sl.HS4_5 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed7 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_7 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 6 (by decide) := by
  rw [accListZ, ← zeroed6 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_7
  dsimp only
  unfold kernelRun0_A.sl.r_3622 kernelRun0_A.sl.r_3570 kernelRun0_A.sl.v27035 kernelRun0_A.sl.v21989 kernelRun0_A.sl.v22346 kernelRun0_A.sl.v22704
  generalize kernelRun0_A.sl.HS4_6 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed8 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_8 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 7 (by decide) := by
  rw [accListZ, ← zeroed7 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_8
  dsimp only
  unfold kernelRun0_A.sl.r_3756 kernelRun0_A.sl.r_3705 kernelRun0_A.sl.v28116 kernelRun0_A.sl.v21989 kernelRun0_A.sl.v22346 kernelRun0_A.sl.v22704
  generalize kernelRun0_A.sl.HS4_7 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed9 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_9 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 8 (by decide) := by
  rw [accListZ, ← zeroed8 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_9
  dsimp only
  unfold kernelRun0_A.sl.r_3898 kernelRun0_A.sl.r_3846 kernelRun0_A.sl.v29197 kernelRun0_A.sl.v21989 kernelRun0_A.sl.v22346 kernelRun0_A.sl.v22704
  generalize kernelRun0_A.sl.HS4_8 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem zeroed10 (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    kernelRun0_A.sl.HS4_10 c arg1 harg1 arg2 harg2 arg4 harg4 arg5 harg5 arg6 harg6 arg7 harg7 arg8 harg8 arg9 harg9 arg10 harg10
      arg12 arg13 arg14 arg15 arg16 x0 x1 x3 x4 x5 x6 x7 x8 x9
      = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 9 (by decide) := by
  rw [accListZ, ← zeroed9 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A kernelRun0_A.sl.HS4_10
  dsimp only
  unfold kernelRun0_A.sl.r_4050 kernelRun0_A.sl.r_3997 kernelRun0_A.sl.v30278 kernelRun0_A.sl.v21989 kernelRun0_A.sl.v22346 kernelRun0_A.sl.v22704
  generalize kernelRun0_A.sl.HS4_9 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

theorem accA (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) :
    (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.1 = accListZ (F := F) (fun L => (arg16.view.read (Elt F) (arg16.view.writes (Elt F) arg16.view.junk L))) (by decide) (arg15.view.read (Elt F) (arg15.view.writes (Elt F) arg15.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.2.1))
      (arg9.view.read (Elt F) (harg9.unread x8)) (arg14.view.read (Elt F) (arg14.view.writes (Elt F) arg14.view.junk (kernelRun0_A (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9).2.2.2.2.1)) 2 (by decide) (by decide) (by decide) 10 (by decide) := by
  rw [accListZ, ← zeroed10 (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9]
  unfold kernelRun0_A
  dsimp only
  unfold kernelRun0_A.sl.r_4243 kernelRun0_A.sl.r_4195 kernelRun0_A.sl.r_4149 kernelRun0_A.sl.v31359 kernelRun0_A.sl.v21989 kernelRun0_A.sl.v22346 kernelRun0_A.sl.v22704
  generalize kernelRun0_A.sl.HS4_10 c arg1 harg1 arg2 harg2 arg4 harg4 arg5 harg5 arg6 harg6 arg7 harg7 arg8 harg8 arg9 harg9 arg10 harg10 arg12 arg13 arg14 arg15 arg16 x0 x1 x3 x4 x5 x6 x7 x8 x9 = L
  generalize kernelRun0_A.sl.HS3_3 c arg1 harg1 arg2 harg2 arg4 harg4 arg5 harg5 arg6 harg6 arg7 harg7 arg8 harg8 arg12 arg13 x0 x1 x3 x4 x5 x6 x7 = M
  sl_unfold_words
  unfold_payloads
  simp only [accPiece, chain]
  unfold blockAt acts tileAt tile wide upper lower loRows hiRows words scaleRows top cut
  rfl

end Cert.Mlp

end
-- ==== Proof.SoutA.lean ====
/-
  What a grid step of case A leaves (Ideal): the accumulator with the step's down product added to it.
-/
module

public import proofs.«01_k».proof.Proof.Lists
public import proofs.«01_k».proof.Proof.PiecesA
public import proofs.«01_k».proof.Proof.AccA
public import proofs.«01_k».proof.Proof.Gen.KernelIdeal.Frame

@[expose] public section

set_option maxRecDepth 20000

noncomputable section

namespace Cert.Mlp

open Idealize.ShloMosaic Cert.KernelIdeal Cert.KernelIdeal.Gen

theorem soutA (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3)
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560) :
    sout0_A_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 (ix2 r n) = dotVal (kh := 384) (G := 48) rfl (glu (x0 (ix1 0)) (x0 (ix1 1)) xr x4 x5 x6 x7) x8 x9 n :=
  first_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (fun _ => 0) _ _ _ _ _ (gtabA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9) (utabA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9) (actA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9) (dtabA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9) (accA (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9) r xr hx hP n _

end Cert.Mlp

end
-- ==== Proof.PiecesB.lean ====
/-
  The stores of one grid step (case B), as the groups of columns of Block.
-/
module

public import proofs.«01_k».proof.Proof.Block
public import proofs.«01_k».proof.Proof.Gen.KernelIdeal.Frame.RunB
import all proofs.«01_k».proof.Proof.Gen.KernelIdeal.Frame.RunB
public import Idealize.ShloMosaic.Lib.Tactic
public import Idealize.ShloMosaic.Lib.Pointwise

@[expose] public section

set_option maxHeartbeats 0
set_option maxRecDepth 20000
set_option pp.maxSteps 100

noncomputable section

namespace Cert.Mlp

open Idealize.ShloMosaic Cert.KernelIdeal Cert.KernelIdeal.Gen

variable {F : FTy → Type} [FloatOps F]

theorem gtabB (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.1 = [⟨Rect.unit (s := Mat 160 768) ![0, 0] (Mat 160 768).size (by decide), table (cut (arg6.view.read (Elt F) (harg6.unread x5)) 160 768 0 0 (by decide) (by decide)) (by decide)⟩] := by
  unfold kernelRun0_B
  dsimp only
  sl_unfold_words
  unfold_payloads
  unfold table cut
  rfl

theorem utabB (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.1 = [⟨Rect.unit (s := Mat 160 768) ![0, 0] (Mat 160 768).size (by decide), table (cut (arg8.view.read (Elt F) (harg8.unread x7)) 160 768 0 0 (by decide) (by decide)) (by decide)⟩] := by
  unfold kernelRun0_B
  dsimp only
  sl_unfold_words
  unfold_payloads
  unfold table cut
  rfl

theorem dtabB (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.1 = [⟨Rect.unit (s := Mat 48 2560) ![0, 0] (Mat 48 2560).size (by decide), table (cut (arg10.view.read (Elt F) (harg10.unread x9)) 48 2560 0 0 (by decide) (by decide)) (by decide)⟩] := by
  unfold kernelRun0_B
  dsimp only
  sl_unfold_words
  unfold_payloads
  unfold table cut
  rfl

theorem actB (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.2.1 = actList (F := F) (arg1.view.read (Elt F) (harg1.unread x0) ((Rect.unit (s := S3) ![0] S1.size inb_S3_S1_0).idx (Shape.Idx.first (by decide)))) (arg1.view.read (Elt F) (harg1.unread x0) ((Rect.unit (s := S3) ![1] S1.size inb_S3_S1_1).idx (Shape.Idx.first (by decide))))
      (arg2.view.read (Elt F) (harg2.unread x1)) (arg4.view.read (Elt F) (harg4.unread x3))
      (arg5.view.read (Elt F) (harg5.unread x4)) (arg12.view.read (Elt F) (arg12.view.writes (Elt F) arg12.view.junk (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.1))
      (arg7.view.read (Elt F) (harg7.unread x6)) (arg13.view.read (Elt F) (arg13.view.writes (Elt F) arg13.view.junk (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.1)) 9 (by decide) (by decide) (by decide) 3 (by decide) := by
  unfold kernelRun0_B
  dsimp only
  sl_unfold_words
  unfold_payloads
  simp only [actList, actPiece, chain]
  unfold blockAt inputs tileAt tile wide upper lower loRows hiRows words scaleRows top cut
  rfl

theorem accB (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.1 = accList (F := F) (arg16.view.read (Elt F) (harg16.unread xs4)) (arg15.view.read (Elt F) (arg15.view.writes (Elt F) arg15.view.junk (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.2.1))
      (arg9.view.read (Elt F) (harg9.unread x8)) (arg14.view.read (Elt F) (arg14.view.writes (Elt F) arg14.view.junk (kernelRun0_B (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.1)) 2 (by decide) (by decide) (by decide) 10 (by decide) := by
  unfold kernelRun0_B
  dsimp only
  sl_unfold_words
  unfold_payloads
  simp only [accList, accPiece, chain]
  unfold blockAt acts tileAt tile wide upper lower loRows hiRows words scaleRows top cut
  rfl

end Cert.Mlp

end
-- ==== Proof.SoutB.lean ====
/-
  What a grid step of case B leaves (Ideal): the accumulator with the step's down product added to it.
-/
module

public import proofs.«01_k».proof.Proof.Lists
public import proofs.«01_k».proof.Proof.PiecesB
public import proofs.«01_k».proof.Proof.Gen.KernelIdeal.Frame

@[expose] public section

set_option maxRecDepth 20000

noncomputable section

namespace Cert.Mlp

open Idealize.ShloMosaic Cert.KernelIdeal Cert.KernelIdeal.Gen

theorem soutB (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560) :
    sout0_B_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4 (ix2 r n) = xs4 (ix2 r n) + dotVal (kh := 384) (G := 48) rfl (glu (x0 (ix1 0)) (x0 (ix1 1)) xr x4 x5 x6 x7) x8 x9 n :=
  step_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 _ _ _ _ _ (gtabB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (utabB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (actB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (dtabB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (accB (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) r xr hx hP n _

end Cert.Mlp

end
-- ==== Proof.PiecesC.lean ====
/-
  The stores of one grid step (case C), as the groups of columns of Block.
-/
module

public import proofs.«01_k».proof.Proof.Block
public import proofs.«01_k».proof.Proof.Gen.KernelIdeal.Frame.RunC
import all proofs.«01_k».proof.Proof.Gen.KernelIdeal.Frame.RunC
public import Idealize.ShloMosaic.Lib.Tactic
public import Idealize.ShloMosaic.Lib.Pointwise

@[expose] public section

set_option maxHeartbeats 0
set_option maxRecDepth 20000
set_option pp.maxSteps 100

noncomputable section

namespace Cert.Mlp

open Idealize.ShloMosaic Cert.KernelIdeal Cert.KernelIdeal.Gen

variable {F : FTy → Type} [FloatOps F]

theorem gtabC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.1 = [⟨Rect.unit (s := Mat 160 768) ![0, 0] (Mat 160 768).size (by decide), table (cut (arg6.view.read (Elt F) (harg6.unread x5)) 160 768 0 0 (by decide) (by decide)) (by decide)⟩] := by
  unfold kernelRun0_C
  dsimp only
  sl_unfold_words
  unfold_payloads
  unfold table cut
  rfl

theorem utabC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.1 = [⟨Rect.unit (s := Mat 160 768) ![0, 0] (Mat 160 768).size (by decide), table (cut (arg8.view.read (Elt F) (harg8.unread x7)) 160 768 0 0 (by decide) (by decide)) (by decide)⟩] := by
  unfold kernelRun0_C
  dsimp only
  sl_unfold_words
  unfold_payloads
  unfold table cut
  rfl

theorem dtabC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.1 = [⟨Rect.unit (s := Mat 48 2560) ![0, 0] (Mat 48 2560).size (by decide), table (cut (arg10.view.read (Elt F) (harg10.unread x9)) 48 2560 0 0 (by decide) (by decide)) (by decide)⟩] := by
  unfold kernelRun0_C
  dsimp only
  sl_unfold_words
  unfold_payloads
  unfold table cut
  rfl

theorem actC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.2.1 = actList (F := F) (arg1.view.read (Elt F) (harg1.unread x0) ((Rect.unit (s := S3) ![0] S1.size inb_S3_S1_0).idx (Shape.Idx.first (by decide)))) (arg1.view.read (Elt F) (harg1.unread x0) ((Rect.unit (s := S3) ![1] S1.size inb_S3_S1_1).idx (Shape.Idx.first (by decide))))
      (arg2.view.read (Elt F) (harg2.unread x1)) (arg4.view.read (Elt F) (harg4.unread x3))
      (arg5.view.read (Elt F) (harg5.unread x4)) (arg12.view.read (Elt F) (arg12.view.writes (Elt F) arg12.view.junk (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.1))
      (arg7.view.read (Elt F) (harg7.unread x6)) (arg13.view.read (Elt F) (arg13.view.writes (Elt F) arg13.view.junk (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.1)) 9 (by decide) (by decide) (by decide) 3 (by decide) := by
  unfold kernelRun0_C
  dsimp only
  sl_unfold_words
  unfold_payloads
  simp only [actList, actPiece, chain]
  unfold blockAt inputs tileAt tile wide upper lower loRows hiRows words scaleRows top cut
  rfl

theorem accC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.1 = accList (F := F) (arg16.view.read (Elt F) (harg16.unread xs4)) (arg15.view.read (Elt F) (arg15.view.writes (Elt F) arg15.view.junk (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.2.1))
      (arg9.view.read (Elt F) (harg9.unread x8)) (arg14.view.read (Elt F) (arg14.view.writes (Elt F) arg14.view.junk (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.2.2.2.1)) 2 (by decide) (by decide) (by decide) 10 (by decide) := by
  unfold kernelRun0_C
  dsimp only
  sl_unfold_words
  unfold_payloads
  simp only [accList, accPiece, chain]
  unfold blockAt acts tileAt tile wide upper lower loRows hiRows words scaleRows top cut
  rfl

theorem outC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec F S3 .f32) (x1 x2 : Vec F S12x2560 .bf16) (x3 : Vec F S256x256 .bf16) (x4 : Vec F S1280x768 .i8) (x5 : Vec F S160x768 .fp8e4m3)
    (x6 : Vec F S1280x768 .i8) (x7 : Vec F S160x768 .fp8e4m3) (x8 : Vec F S384x2560 .i8) (x9 : Vec F S48x2560 .fp8e4m3) (xs4 : Vec F S12x2560 .f32) :
    (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).1 = [⟨Rect.unit (s := Mat 12 2560) ![0, 0] (Mat 12 2560).size (by decide), outOf (cut (arg3.view.read (Elt F) (harg3.unread x2)) 12 2560 0 0 (by decide) (by decide)) (cut (arg16.view.read (Elt F) (arg16.view.writes (Elt F) arg16.view.junk (kernelRun0_C (F := F) c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 hc0 hc1 x0 x1 x2 x3 x4 x5 x6 x7 x8 x9 xs4).2.1)) 12 2560 0 0 (by decide) (by decide)) (arg1.view.read (Elt F) (harg1.unread x0) ((Rect.unit (s := S3) ![2] S1.size inb_S3_S1_2).idx (Shape.Idx.first (by decide)))) (by decide)⟩] := by
  unfold kernelRun0_C
  dsimp only
  sl_unfold_words
  unfold_payloads
  unfold outOf cut
  rfl

end Cert.Mlp

end
-- ==== Proof.SoutC.lean ====
/-
  What a grid step of case C leaves (Ideal): the accumulator with the step's down product added to it.
-/
module

public import proofs.«01_k».proof.Proof.Lists
public import proofs.«01_k».proof.Proof.PiecesC
public import proofs.«01_k».proof.Proof.Gen.KernelIdeal.Frame

@[expose] public section

set_option maxRecDepth 20000

noncomputable section

namespace Cert.Mlp

open Idealize.ShloMosaic Cert.KernelIdeal Cert.KernelIdeal.Gen

theorem soutC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560) :
    sout0_C_4 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4 (ix2 r n) = xs4 (ix2 r n) + dotVal (kh := 384) (G := 48) rfl (glu (x0 (ix1 0)) (x0 (ix1 1)) xr x4 x5 x6 x7) x8 x9 n :=
  step_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 _ _ _ _ _ (gtabC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (utabC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (actC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (dtabC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (accC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) r xr hx hP n _

theorem outputC (c : Dev nD) (i : grid0.Coords)
    (arg1 : Memref sig Kind.tc Space.smem S3 EltTy.f32) (harg1 : arg1.IsWhole)
    (arg2 : Memref sig Kind.tc Space.vmem S12x2560 EltTy.bf16) (harg2 : arg2.IsWhole)
    (arg3 : Memref sig Kind.tc Space.vmem S12x2560 EltTy.bf16) (harg3 : arg3.IsWhole)
    (arg4 : Memref sig Kind.tc Space.vmem S256x256 EltTy.bf16) (harg4 : arg4.IsWhole)
    (arg5 : Memref sig Kind.tc Space.vmem S1280x768 EltTy.i8) (harg5 : arg5.IsWhole)
    (arg6 : Memref sig Kind.tc Space.vmem S160x768 EltTy.fp8e4m3) (harg6 : arg6.IsWhole)
    (arg7 : Memref sig Kind.tc Space.vmem S1280x768 EltTy.i8) (harg7 : arg7.IsWhole)
    (arg8 : Memref sig Kind.tc Space.vmem S160x768 EltTy.fp8e4m3) (harg8 : arg8.IsWhole)
    (arg9 : Memref sig Kind.tc Space.vmem S384x2560 EltTy.i8) (harg9 : arg9.IsWhole)
    (arg10 : Memref sig Kind.tc Space.vmem S48x2560 EltTy.fp8e4m3) (harg10 : arg10.IsWhole)
    (arg11 : Memref sig Kind.tc Space.vmem S12x2560 EltTy.bf16) (harg11 : arg11.IsWhole)
    (arg12 : Memref sig Kind.tc Space.vmem S160x768 EltTy.bf16) (harg12 : arg12.IsWhole)
    (arg13 : Memref sig Kind.tc Space.vmem S160x768 EltTy.bf16) (harg13 : arg13.IsWhole)
    (arg14 : Memref sig Kind.tc Space.vmem S48x2560 EltTy.bf16) (harg14 : arg14.IsWhole)
    (arg15 : Memref sig Kind.tc Space.vmem S12x768 EltTy.bf16) (harg15 : arg15.IsWhole)
    (arg16 : Memref sig Kind.tc Space.vmem S12x2560 EltTy.f32) (harg16 : arg16.IsWhole)
    (hc0) (hc1)
    (x0 : Vec Ideal S3 .f32) (x1 x2 : Vec Ideal S12x2560 .bf16) (x3 : Vec Ideal S256x256 .bf16) (x4 : Vec Ideal S1280x768 .i8) (x5 : Vec Ideal S160x768 .fp8e4m3)
    (x6 : Vec Ideal S1280x768 .i8) (x7 : Vec Ideal S160x768 .fp8e4m3) (x8 : Vec Ideal S384x2560 .i8) (x9 : Vec Ideal S48x2560 .fp8e4m3) (xs4 : Vec Ideal S12x2560 .f32)
    (r : Fin 12) (xr : Fin 2560 → EReal) (hx : ∀ p q : Fin 2560, q.val = order p.val → x1 (ix2 r p) = xr q)
    (hP : ∀ i j : Fin 256, x3 (ix2 i j) = if i.val = 2 * (j.val % 128) + j.val / 128 then 1 else 0) (n : Fin 2560) :
    out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4 (ix2 r n) = x2 (ix2 r n) + (xs4 (ix2 r n) + dotVal (kh := 384) (G := 48) rfl (glu (x0 (ix1 0)) (x0 (ix1 1)) xr x4 x5 x6 x7) x8 x9 n) * x0 (ix1 2) :=
  out_of arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 xs4 _ _ _ _ _ _ (gtabC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (utabC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (actC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (dtabC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (accC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) (outC (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs4) r xr hx hP n _

end Cert.Mlp

end
-- ==== Proof.KernelRun.lean ====
/-
  What the kernel's run leaves in its result (Ideal): the accumulator adds up the steps' down products, and the last step writes
  the whole block's result.
-/
module

public import proofs.«01_k».proof.Proof.Host
public import proofs.«01_k».proof.Proof.Sums
public import proofs.«01_k».proof.Proof.SoutA
public import proofs.«01_k».proof.Proof.SoutB
public import proofs.«01_k».proof.Proof.SoutC
public import proofs.«01_k».proof.Proof.Gen.KernelIdeal.Value

@[expose] public section

noncomputable section

namespace Cert.KernelIdeal.MlpHost

open Idealize.ShloMosaic Idealize.ShloMosaic.TcCoe Cert.KernelIdeal Cert.KernelIdeal.Gen Cert.KernelIdeal.Value Cert.Mlp
open scoped BigOperators

variable (m : (ℓ : Loc nD τ sig) → Buf (Elt Ideal) ℓ) (c : Dev nD)

/-- Row `r` normalized. -/
def row (r : Fin 12) (q : Fin 2560) : EReal := normed (F := Ideal) (m ((c : Thread nD τ).loc main_arg0)) (m ((c : Thread nD τ).loc main_arg1)) (ix2 r q)

/-- The gated activations of row `r`. -/
def mid (r : Fin 12) : Fin 6912 → EReal :=
  Mlp.hidden (m ((c : Thread nD τ).loc main_arg4) (ix1 0)) (m ((c : Thread nD τ).loc main_arg7) (ix1 0)) (row m c r)
    (m ((c : Thread nD τ).loc main_arg2)) (m ((c : Thread nD τ).loc main_arg3)) (m ((c : Thread nD τ).loc main_arg5)) (m ((c : Thread nD τ).loc main_arg6))

/-- The down product of one step. -/
def part (r : Fin 12) (n : Fin 2560) (t : Fin cfg0.N) : EReal :=
  dotVal (kh := 384) (G := 48) rfl (glu (iblk m c 0 t (ix1 0)) (iblk m c 0 t (ix1 1)) (row m c r) (iblk m c 4 t) (iblk m c 5 t) (iblk m c 6 t) (iblk m c 7 t))
    (iblk m c 8 t) (iblk m c 9 t) n

/-- The residual's element at a step. -/
def resid (r : Fin 12) (n : Fin 2560) (t : Fin cfg0.N) : EReal := iblk m c 2 t (ix2 r n)

/-- The down product's global scale at a step. -/
def gain (t : Fin cfg0.N) : EReal := iblk m c 0 t (ix1 2)

theorem resid_eq (r : Fin 12) (n : Fin 2560) (t : Fin cfg0.N) : resid m c r n t = m ((c : Thread nD τ).loc main_arg0) (ix2 r n) := by
  unfold resid
  rw [block2]

theorem gain_eq (t : Fin cfg0.N) : gain m c t = m ((c : Thread nD τ).loc main_arg10) (ix1 0) := by
  unfold gain
  rw [block0, scale2]

theorem rows (r : Fin 12) (t : Fin cfg0.N) (p q : Fin 2560) (h : q.val = order p.val) : iblk m c 1 t (ix2 r p) = row m c r q := by
  rw [block1, kernel_normed]
  exact order_at _ r p q h

theorem perms (t : Fin cfg0.N) (i j : Fin 256) :
    iblk m c 3 t (ix2 i j) = if i.val = 2 * (j.val % 128) + j.val / 128 then (1 : EReal) else 0 := by
  rw [block3]
  exact perm_at m c i j

theorem first_step (r : Fin 12) (n : Fin 2560) (t : Fin cfg0.N) (acc) (h0 : t.val % 9 = 0) (h1 : ¬t.val % 9 = 8) :
    (stAt0 m c t.val t.isLt acc).2 (ix2 r n) = part m c r n t := by
  rw [stAt0_A m c t acc h0 h1]
  exact soutA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) scM0_1 (Memref.isWhole_whole _) scM0_2 (Memref.isWhole_whole _) scM0_3 (Memref.isWhole_whole _) scM0_4 (Memref.isWhole_whole _)
    ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) r (row m c r) (rows m c r t) (perms m c t) n

theorem next_step (r : Fin 12) (n : Fin 2560) (t : Fin cfg0.N) (acc) (h0 : ¬t.val % 9 = 0) (h1 : ¬t.val % 9 = 8) :
    (stAt0 m c t.val t.isLt acc).2 (ix2 r n) = acc.2 (ix2 r n) + part m c r n t := by
  rw [stAt0_B m c t acc h0 h1]
  exact soutB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) acc.2 r (row m c r) (rows m c r t) (perms m c t) n

attribute [local irreducible] out0_C_10 sout0_C_4 in
theorem last_step (r : Fin 12) (n : Fin 2560) (t : Fin cfg0.N) (acc) (h0 : ¬t.val % 9 = 0) (h1 : t.val % 9 = 8) :
    (stAt0 m c t.val t.isLt acc).1 (ix2 r n) = resid m c r n t + (acc.2 (ix2 r n) + part m c r n t) * gain m c t := by
  rw [stAt0_C m c t acc h0 h1]
  unfold resid part gain
  exact outputC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t)
    scM0_0 (Memref.isWhole_whole _) scM0_1 (Memref.isWhole_whole _) scM0_2 (Memref.isWhole_whole _) scM0_3 (Memref.isWhole_whole _) scM0_4 (Memref.isWhole_whole _)
    (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) acc.2 r (row m c r) (rows m c r t) (perms m c t) n

theorem part_eq (r : Fin 12) (n : Fin 2560) (xs lo hi : Nat → EReal) (hxs : ∀ (q : Nat) (hq : q < 6912), mid m c r ⟨q, hq⟩ = xs q)
    (hlo : ∀ (q : Nat) (hq : q < 3456), wlo (kh := 3456) (G := 432) rfl (m ((c : Thread nD τ).loc main_arg8)) (m ((c : Thread nD τ).loc main_arg9)) ⟨q, hq⟩ n = lo q)
    (hhi : ∀ (q : Nat) (hq : q < 3456), whi (kh := 3456) (G := 432) rfl (m ((c : Thread nD τ).loc main_arg8)) (m ((c : Thread nD τ).loc main_arg9)) ⟨q, hq⟩ n = hi q)
    (t : Fin cfg0.N) : part m c r n t = ∑ q ∈ Finset.range 384, pairs xs lo hi (384 * t.val + q) :=
  down_block t.val (points t) (mid m c r) (m ((c : Thread nD τ).loc main_arg8)) (m ((c : Thread nD τ).loc main_arg9)) n _ _ _
    (fun k => by
      rw [block0, scale0, scale1]
      exact glu_block t.val (points t) _ _ (row m c r) (m ((c : Thread nD τ).loc main_arg2)) (m ((c : Thread nD τ).loc main_arg3))
        (m ((c : Thread nD τ).loc main_arg5)) (m ((c : Thread nD τ).loc main_arg6)) _ _ _ _ (block4 m c t) (block5 m c t) (block6 m c t) (block7 m c t) k)
    (fun k => block8 m c t k n) (fun g => block9 m c t g n) xs lo hi hxs hlo hhi

theorem scaled (h d : EReal) {x y : EReal} (e : x = y) : h + x * d = h + y * d := by rw [e]

/-- Nine steps, of which the first clears the accumulator and the last writes the result: what is written. -/
theorem nine_steps (r : Fin 12) (n : Fin 2560) (junk : Vec Ideal S12x2560 .bf16 × Vec Ideal S12x2560 .f32)
    (st : (k : Nat) → k < cfg0.N → Vec Ideal S12x2560 .bf16 × Vec Ideal S12x2560 .f32 → Vec Ideal S12x2560 .bf16 × Vec Ideal S12x2560 .f32)
    (hfirst : ∀ (t : Fin cfg0.N) (acc), t.val % 9 = 0 → ¬t.val % 9 = 8 → (st t.val t.isLt acc).2 (ix2 r n) = part m c r n t)
    (hnext : ∀ (t : Fin cfg0.N) (acc), ¬t.val % 9 = 0 → ¬t.val % 9 = 8 → (st t.val t.isLt acc).2 (ix2 r n) = acc.2 (ix2 r n) + part m c r n t)
    (hlast : ∀ (t : Fin cfg0.N) (acc), ¬t.val % 9 = 0 → t.val % 9 = 8 →
      (st t.val t.isLt acc).1 (ix2 r n) = resid m c r n t + (acc.2 (ix2 r n) + part m c r n t) * gain m c t)
    (h8 : 8 < cfg0.N) :
    (Pipeline.accAt (fun k h => st k h junk) st 0 8 h8).1 (ix2 r n)
      = mlpAt (m ((c : Thread nD τ).loc main_arg0) (ix2 r n)) (m ((c : Thread nD τ).loc main_arg4) (ix1 0)) (m ((c : Thread nD τ).loc main_arg7) (ix1 0))
          (m ((c : Thread nD τ).loc main_arg10) (ix1 0)) (row m c r)
          (m ((c : Thread nD τ).loc main_arg2)) (m ((c : Thread nD τ).loc main_arg3)) (m ((c : Thread nD τ).loc main_arg5)) (m ((c : Thread nD τ).loc main_arg6))
          (m ((c : Thread nD τ).loc main_arg8)) (m ((c : Thread nD τ).loc main_arg9)) n := by
  obtain ⟨xs, hxs⟩ := extend (mid m c r)
  obtain ⟨lo, hlo⟩ := extend fun q => wlo (kh := 3456) (G := 432) rfl (m ((c : Thread nD τ).loc main_arg8)) (m ((c : Thread nD τ).loc main_arg9)) q n
  obtain ⟨hi, hhi⟩ := extend fun q => whi (kh := 3456) (G := 432) rfl (m ((c : Thread nD τ).loc main_arg8)) (m ((c : Thread nD τ).loc main_arg9)) q n
  have part' := part_eq m c r n xs lo hi hxs hlo hhi
  have hN : cfg0.N = 9 := N_0
  have before := fold_sum (fun k h => st k h junk) st (fun a => a.2 (ix2 r n))
    (fun j => ∑ q ∈ Finset.range 384, pairs xs lo hi (384 * j + q)) 8
    (fun h => (hfirst ⟨0, h⟩ junk (by show (0 : Nat) % 9 = 0; decide) (by show ¬(0 : Nat) % 9 = 8; decide)).trans (part' _))
    (fun j h x hj hB => (hnext ⟨j, h⟩ x (by show ¬ j % 9 = 0; omega) (by show ¬ j % 9 = 8; omega)).trans (congrArg _ (part' _)))
    7 (by omega) (by decide)
  have last := hlast ⟨8, by omega⟩ (Pipeline.accAt (fun k h => st k h junk) st 0 7 (by omega)) (by show ¬(8 : Nat) % 9 = 0; decide) (by show (8 : Nat) % 9 = 8; decide)
  refine last.trans ?_
  rw [before, part', resid_eq, gain_eq]
  refine scaled _ _ ?_
  refine Eq.trans ?_ (sum_pairs (kh := 3456) (G := 432) rfl (mid m c r) (m ((c : Thread nD τ).loc main_arg8)) (m ((c : Thread nD τ).loc main_arg9)) n
    xs lo hi hxs hlo hhi).symm
  exact (Finset.sum_range_succ (fun j => ∑ q ∈ Finset.range 384, pairs xs lo hi (384 * j + q)) 8).symm.trans (sum_blocks (pairs xs lo hi) 384 9)

/-- What the run leaves, at an index. -/
theorem result_at (r : Fin 12) (n : Fin 2560) :
    G10 m c (ix2 r n)
      = mlpAt (m ((c : Thread nD τ).loc main_arg0) (ix2 r n)) (m ((c : Thread nD τ).loc main_arg4) (ix1 0)) (m ((c : Thread nD τ).loc main_arg7) (ix1 0))
          (m ((c : Thread nD τ).loc main_arg10) (ix1 0)) (row m c r)
          (m ((c : Thread nD τ).loc main_arg2)) (m ((c : Thread nD τ).loc main_arg3)) (m ((c : Thread nD τ).loc main_arg5)) (m ((c : Thread nD τ).loc main_arg6))
          (m ((c : Thread nD τ).loc main_arg8)) (m ((c : Thread nD τ).loc main_arg9)) n := by
  rw [G10_last]
  exact nine_steps m c r n junk0 (stAt0 m c) (first_step m c r n) (next_step m c r n) (last_step m c r n) _

end Cert.KernelIdeal.MlpHost

end
-- ==== Proof.RefValue.lean ====
/-
  The reference's one block as a function of what it loads (`out_eq`): the activation and the two layers of `linear`.
-/
module

public import proofs.«01_k».proof.Proof.Weights
public import proofs.«01_k».proof.Proof.Gen.ReferenceIdeal.Value
public import Idealize.ShloMosaic.Lib.Pipeline.Value

@[expose] public section

noncomputable section

namespace Cert.ReferenceIdeal.MlpRef

open Idealize.ShloMosaic Idealize.SL.Sem Cert.ReferenceIdeal Cert.ReferenceIdeal.Gen Cert.Mlp

theorem hz : (![0, 0] : Fin 2 → Nat) = fun _ => 0 := funext fun a => by fin_cases a <;> rfl
theorem hz1 : (![0] : Fin 1 → Nat) = fun _ => 0 := funext fun a => by fin_cases a; rfl

variable {F : FTy → Type} [FloatOps F]

/-- The first two layers. -/
def layer (x : FVec F S12x2560 .bf16) (c : IVec S1280x6912 8) (b : FVec F S160x6912 .fp8e4m3) (s : FVec F S1 .f32) : FVec F S12x6912 .f32 :=
  linear 1280 160 6912 x c b s shapeCasts_S12x2560_S12x1280x2 slices_S12x1280x2_o0_0_0_S12x1280x1 slices_S12x1280x2_o0_0_1_S12x1280x1
    shapeCasts_S12x1280x1_S12x1280 shapeCasts_S1280x6912_S160x8x6912 shapeCasts_S160x6912_S160x1x6912 broadcasts_S160x1x6912_S160x8x6912
    shapeCasts_S160x8x6912_S1280x6912

/-- The last layer. -/
def layerDown (x : FVec F S12x6912 .bf16) (c : IVec S3456x2560 8) (b : FVec F S432x2560 .fp8e4m3) (s : FVec F S1 .f32) : FVec F S12x2560 .f32 :=
  linear 3456 432 2560 x c b s shapeCasts_S12x6912_S12x3456x2 slices_S12x3456x2_o0_0_0_S12x3456x1 slices_S12x3456x2_o0_0_1_S12x3456x1
    shapeCasts_S12x3456x1_S12x3456 shapeCasts_S3456x2560_S432x8x2560 shapeCasts_S432x2560_S432x1x2560 broadcasts_S432x1x2560_S432x8x2560
    shapeCasts_S432x8x2560_S3456x2560

/-- The activation. -/
def act (g u : FVec F S12x6912 .f32) : FVec F S12x6912 .bf16 := truncf .bf16 (mulf (mulf g (logistic g)) u) bitsLt_bf16_f32

theorem out_eq (x0 x1 : Vec F S12x2560 .bf16) (x2 : Vec F S1280x6912 .i8) (x3 : Vec F S160x6912 .fp8e4m3) (x4 : Vec F S1 .f32)
    (x5 : Vec F S1280x6912 .i8) (x6 : Vec F S160x6912 .fp8e4m3) (x7 : Vec F S1 .f32) (x8 : Vec F S3456x2560 .i8)
    (x9 : Vec F S432x2560 .fp8e4m3) (x10 : Vec F S1 .f32) :
    out0_11 x0 x1 x2 x3 x4 x5 x6 x7 x8 x9 x10
      = truncf .bf16 (addf (extf .f32 x1 bitsLt_bf16_f32) (layerDown (act (layer x0 x2 x3 x4) (layer x0 x5 x6 x7)) x8 x9 x10)) bitsLt_bf16_f32 := by
  unfold_out out0_11
  rw [View.canon_unit_zero hz]
  simp only [View.ld_unit_zero (S := S12x2560) hz, View.ld_unit_zero (S := S1280x6912) hz, View.ld_unit_zero (S := S160x6912) hz,
    View.ld_unit_zero (S := S1) hz1, View.ld_unit_zero (S := S3456x2560) hz, View.ld_unit_zero (S := S432x2560) hz]
  unfold_payloads
  simp only [shapeCast_self]
  rfl

end Cert.ReferenceIdeal.MlpRef

end
-- ==== Proof.RefRun.lean ====
/-
  What the reference's run leaves in its result (Ideal): the block function of RefValue on the whole arrays.
-/
module

public import proofs.«01_k».proof.Proof.RefValue
public import proofs.«01_k».proof.Proof.Sums
public import Idealize.ShloMosaic.Lib.Claim
public import Idealize.ShloMosaic.Lib.Pipeline.ValueKit

@[expose] public section

noncomputable section

namespace Cert.ReferenceIdeal.MlpRef

open Idealize.ShloMosaic Idealize.ShloMosaic.TcCoe Idealize.SL.Sem Cert.ReferenceIdeal Cert.ReferenceIdeal.Gen Cert.Mlp
open Idealize.ShloMosaic.Pipeline (Dat)

variable (m : (ℓ : Loc nD τ sig) → Buf (Elt Ideal) ℓ)

theorem out_at (x0 x1 : Vec Ideal S12x2560 .bf16) (x2 : Vec Ideal S1280x6912 .i8) (x3 : Vec Ideal S160x6912 .fp8e4m3) (x4 : Vec Ideal S1 .f32)
    (x5 : Vec Ideal S1280x6912 .i8) (x6 : Vec Ideal S160x6912 .fp8e4m3) (x7 : Vec Ideal S1 .f32) (x8 : Vec Ideal S3456x2560 .i8)
    (x9 : Vec Ideal S432x2560 .fp8e4m3) (x10 : Vec Ideal S1 .f32) (r : Fin 12) (n : Fin 2560) :
    out0_11 (F := Ideal) x0 x1 x2 x3 x4 x5 x6 x7 x8 x9 x10 (ix2 r n)
      = mlpAt (x1 (ix2 r n)) (x4 (ix1 0)) (x7 (ix1 0)) (x10 (ix1 0)) (fun q => x0 (ix2 r q)) x2 x3 x5 x6 x8 x9 n := by
  have down := linear_apply 3456 432 2560 rfl (act (layer x0 x2 x3 x4) (layer x0 x5 x6 x7)) x8 x9 x10 shapeCasts_S12x6912_S12x3456x2
    slices_S12x3456x2_o0_0_0_S12x3456x1 slices_S12x3456x2_o0_0_1_S12x3456x1
    shapeCasts_S12x3456x1_S12x3456 shapeCasts_S3456x2560_S432x8x2560 shapeCasts_S432x2560_S432x1x2560 broadcasts_S432x1x2560_S432x8x2560
    shapeCasts_S432x8x2560_S3456x2560 r n
  have up : ∀ (c : Vec Ideal S1280x6912 .i8) (b : Vec Ideal S160x6912 .fp8e4m3) (s : Vec Ideal S1 .f32) (q : Fin 6912),
      layer (F := Ideal) x0 c b s (ix2 r q) = dotVal (kh := 1280) (G := 160) rfl (fun q => x0 (ix2 r q)) c b q * s (ix1 0) := fun c b s q =>
    linear_apply 1280 160 6912 rfl x0 c b s _ _ _ _ _ _ _ _ r q
  have mid : (fun q : Fin (2 * 3456) => act (F := Ideal) (layer x0 x2 x3 x4) (layer x0 x5 x6 x7) (ix2 r q))
      = Mlp.hidden (x4 (ix1 0)) (x7 (ix1 0)) (fun q => x0 (ix2 r q)) x2 x3 x5 x6 := by
    funext q
    show layer (F := Ideal) x0 x2 x3 x4 (ix2 r q) * Ideal.logistic (layer (F := Ideal) x0 x2 x3 x4 (ix2 r q)) * layer (F := Ideal) x0 x5 x6 x7 (ix2 r q) = _
    rw [up, up, Mlp.hidden, gated]
  rw [mid] at down
  rw [out_eq]
  show x1 (ix2 r n) + layerDown (F := Ideal) _ x8 x9 x10 (ix2 r n) = _
  rw [mlpAt, ← down]
  rfl

/-! Every window is its whole array. -/

theorem at0 : ∀ a, win0_0.index t0_0 a = 0 := by decide +kernel
theorem whole0 (c : Dev nD) : iblk m c 0 t0_0 = V m c main_v14 := funext fun y => by blk_ext [iblk, at0]
theorem at1 : ∀ a, win0_1.index t0_0 a = 0 := by decide +kernel
theorem whole1 (c : Dev nD) : iblk m c 1 t0_0 = m ((c : Thread nD τ).loc main_arg0) := funext fun y => by blk_ext [iblk, V, at1]
theorem at2 : ∀ a, win0_2.index t0_0 a = 0 := by decide +kernel
theorem whole2 (c : Dev nD) : iblk m c 2 t0_0 = m ((c : Thread nD τ).loc main_arg2) := funext fun y => by blk_ext [iblk, V, at2]
theorem at3 : ∀ a, win0_3.index t0_0 a = 0 := by decide +kernel
theorem whole3 (c : Dev nD) : iblk m c 3 t0_0 = m ((c : Thread nD τ).loc main_arg3) := funext fun y => by blk_ext [iblk, V, at3]
theorem at4 : ∀ a, win0_4.index t0_0 a = 0 := by decide +kernel
theorem whole4 (c : Dev nD) : iblk m c 4 t0_0 = m ((c : Thread nD τ).loc main_arg4) := funext fun y => by blk_ext [iblk, V, at4]
theorem at5 : ∀ a, win0_5.index t0_0 a = 0 := by decide +kernel
theorem whole5 (c : Dev nD) : iblk m c 5 t0_0 = m ((c : Thread nD τ).loc main_arg5) := funext fun y => by blk_ext [iblk, V, at5]
theorem at6 : ∀ a, win0_6.index t0_0 a = 0 := by decide +kernel
theorem whole6 (c : Dev nD) : iblk m c 6 t0_0 = m ((c : Thread nD τ).loc main_arg6) := funext fun y => by blk_ext [iblk, V, at6]
theorem at7 : ∀ a, win0_7.index t0_0 a = 0 := by decide +kernel
theorem whole7 (c : Dev nD) : iblk m c 7 t0_0 = m ((c : Thread nD τ).loc main_arg7) := funext fun y => by blk_ext [iblk, V, at7]
theorem at8 : ∀ a, win0_8.index t0_0 a = 0 := by decide +kernel
theorem whole8 (c : Dev nD) : iblk m c 8 t0_0 = m ((c : Thread nD τ).loc main_arg8) := funext fun y => by blk_ext [iblk, V, at8]
theorem at9 : ∀ a, win0_9.index t0_0 a = 0 := by decide +kernel
theorem whole9 (c : Dev nD) : iblk m c 9 t0_0 = m ((c : Thread nD τ).loc main_arg9) := funext fun y => by blk_ext [iblk, V, at9]
theorem at10 : ∀ a, win0_10.index t0_0 a = 0 := by decide +kernel
theorem whole10 (c : Dev nD) : iblk m c 10 t0_0 = m ((c : Thread nD τ).loc main_arg10) := funext fun y => by blk_ext [iblk, V, at10]
theorem at11 : ∀ a, win0_11.index t0_0 a = 0 := by decide +kernel

/-- What the run leaves, at an index. -/
theorem result_at (c : Dev nD) (r : Fin 12) (n : Fin 2560) :
    (dats m 0 c).arrAt 11 cfg0.N (ix2 r n)
      = mlpAt (m ((c : Thread nD τ).loc main_arg0) (ix2 r n)) (m ((c : Thread nD τ).loc main_arg4) (ix1 0)) (m ((c : Thread nD τ).loc main_arg7) (ix1 0))
          (m ((c : Thread nD τ).loc main_arg10) (ix1 0)) (fun q => V m c main_v14 (ix2 r q))
          (m ((c : Thread nD τ).loc main_arg2)) (m ((c : Thread nD τ).loc main_arg3)) (m ((c : Thread nD τ).loc main_arg5)) (m ((c : Thread nD τ).loc main_arg6))
          (m ((c : Thread nD τ).loc main_arg8)) (m ((c : Thread nD τ).loc main_arg9)) n := by
  have key : (dats m 0 c).arrAt 11 cfg0.N = out0_11 (F := Ideal) (V m c main_v14) (m ((c : Thread nD τ).loc main_arg0)) (m ((c : Thread nD τ).loc main_arg2))
      (m ((c : Thread nD τ).loc main_arg3)) (m ((c : Thread nD τ).loc main_arg4)) (m ((c : Thread nD τ).loc main_arg5)) (m ((c : Thread nD τ).loc main_arg6))
      (m ((c : Thread nD τ).loc main_arg7)) (m ((c : Thread nD τ).loc main_arg8)) (m ((c : Thread nD τ).loc main_arg9)) (m ((c : Thread nD τ).loc main_arg10)) := by
    refine (dats m 0 c).arrAt_eq_of_covers 11 _ (by decide +kernel) fun t hf y => ?_
    obtain rfl : t = t0_0 := Fin.ext (by have := lt_of_lt_of_eq t.isLt N_0; show t.val = 0; omega)
    blk_simp
    rw [after0_11, whole0, whole1, whole2, whole3, whole4, whole5, whole6, whole7, whole8, whole9, whole10]
    refine congrArg _ ?_
    blk_ext [at11]
  rw [key]
  exact out_at ..

end Cert.ReferenceIdeal.MlpRef

end
-- ==== Proof.Agree.lean ====
/-
  The two programs' results are equal (Ideal) from memories that agree on the arguments.
-/
module

public import proofs.«01_k».proof.Proof.KernelRun
public import proofs.«01_k».proof.Proof.RefRun
public import proofs.«01_k».proof.Proof.Norm
public import proofs.«01_k».proof.Defs

@[expose] public section

noncomputable section

namespace Cert.Mlp

open Idealize.ShloMosaic Idealize.ShloMosaic.TcCoe Idealize.SL.Sem

theorem results_equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    (Cert.ReferenceIdeal.Gen.dats m' 0 c).arrAt 11 Cert.ReferenceIdeal.cfg0.N = Cert.KernelIdeal.Value.G10 m c := by
  funext i
  have e : i = ix2 (i 0) (i 1) := funext fun a => by fin_cases a <;> rfl
  rw [e]
  refine (Cert.ReferenceIdeal.MlpRef.result_at m' c (i 0) (i 1)).trans
    (Eq.trans ?_ (Cert.KernelIdeal.MlpHost.result_at m c (i 0) (i 1)).symm)
  rw [reference_normed, h0, h1, h2, h3, h4, h5, h6, h7, h8, h9, h10]
  rfl

end Cert.Mlp

end
-- ==== Proof.lean ====
module

public import proofs.«01_k».proof.Proof.Gen.ReferenceIdeal.Value
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import Idealize.ShloMosaic.Adequacy
public import Idealize.ShloMosaic.Init

@[expose] public section

noncomputable section

namespace Cert.Proof

open Idealize.ShloMosaic Idealize.SL.Sem

theorem algebraic : Cert.algebraic_KernelIdeal_ReferenceIdeal (hKernelIdeal := Cert.KernelIdeal.Gen.facts) (hReferenceIdeal := Cert.ReferenceIdeal.Gen.facts) := by
  intro m g m' g' _ agree
  refine ⟨fun c => Cert.KernelIdeal.Value.G10 m c, Cert.KernelIdeal.Value.run m g, ?_⟩
  refine (θ_run Cert.ReferenceIdeal.defs _ _).mono (fun r h c => ⟨(h c).1.trans ?_, (h c).2⟩) (Cert.ReferenceIdeal.Value.run_blocks m' g')
  obtain ⟨h0, h1, h2, h3, h4, h5, h6, h7, h8, h9, h10⟩ := agree c
  exact Cert.Mlp.results_equal m m' c h0 h1 h2 h3 h4 h5 h6 h7 h8 h9 h10

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ, trivial, algebraic⟩

end Cert.Proof

end
